-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)) (v4 : (c : Dev Cert.Kernel3Ideal.nD) → Buf (Elt Ideal) ((c.tc : Thread Cert.Kernel3Ideal.nD Cert.Kernel3Ideal.τ).loc Cert.Kernel3Ideal.main_v7_4)) (v5 : (c : Dev Cert.Kernel3Ideal.nD) → Buf (Elt Ideal) ((c.tc : Thread Cert.Kernel3Ideal.nD Cert.Kernel3Ideal.τ).loc Cert.Kernel3Ideal.main_v7_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_v7_4) = v4 c
          ∧ r.2.mem ((c.tc : Thread Cert.Kernel3Ideal.nD Cert.Kernel3Ideal.τ).loc Cert.Kernel3Ideal.main_v7_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v70) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_v72) = v3 c
          ∧ r.2.mem ((c.tc : Thread Cert.Reference3Ideal.nD Cert.Reference3Ideal.τ).loc Cert.Reference3Ideal.main_v73) = v4 c
          ∧ r.2.mem ((c.tc : Thread Cert.Reference3Ideal.nD Cert.Reference3Ideal.τ).loc Cert.Reference3Ideal.main_v74) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S32x8 : Shape := ⟨2, ![32, 8]⟩
abbrev S8x2048x1024 : Shape := ⟨3, ![8, 2048, 1024]⟩
abbrev S8x1024x2048 : Shape := ⟨3, ![8, 1024, 2048]⟩
abbrev S64 : Shape := ⟨1, ![64]⟩
abbrev S128 : Shape := ⟨1, ![128]⟩
abbrev S_ : Shape := ⟨0, ![]⟩

class Facts : Prop where
  bcast_S_S32x8 : S_.BroadcastsInDim S32x8 (![] : Fin 0 → Fin S32x8.rank)
  bitsLt_bf16_f32 : FTy.bits .bf16 < FTy.bits .f32
  bcast_S_S8x2048x1024 : S_.BroadcastsInDim S8x2048x1024 (![] : Fin 0 → Fin S8x2048x1024.rank)
  bcast_S_S8x1024x2048 : S_.BroadcastsInDim S8x1024x2048 (![] : Fin 0 → Fin S8x1024x2048.rank)
  bcast_S_S64 : S_.BroadcastsInDim S64 (![] : Fin 0 → Fin S64.rank)

variable [Facts]

def fn_part1 {F : FTy → Type} [FloatOps F] (main_arg6 : FVec F S64 .f32) (main_arg7 : FVec F S64 .f32) (main_v2 : IVec S32x8 1) (main_v6 : IVec S8x2048x1024 1) (main_v10 : IVec S8x1024x2048 1) (main_v14 : IVec S8x2048x1024 1) (main_v17 : IVec S64 1) (main_v18 : FVec F S64 .f32) : IVec S32x8 1 × IVec S8x2048x1024 1 × IVec S8x1024x2048 1 × IVec S8x2048x1024 1 × IVec S64 1 × IVec S64 1 × IVec S64 1 × IVec S64 1 :=
  let main_cst_4 : FVec F S_ .f32 := constant S_ .f32 0x7F800000#32
  let main_v19 : FVec F S64 .f32 := broadcastInDim S64 ![] bcast_S_S64 main_cst_4
  let main_v20 : IVec S64 1 := cmpf .olt main_v18 main_v19
  let main_v21 : FVec F S64 .f32 := Host.absf main_arg6
  let main_cst_5 : FVec F S_ .f32 := constant S_ .f32 0x7F800000#32
  let main_v22 : FVec F S64 .f32 := broadcastInDim S64 ![] bcast_S_S64 main_cst_5
  let main_v23 : IVec S64 1 := cmpf .olt main_v21 main_v22
  let main_v24 : FVec F S64 .f32 := Host.absf main_arg7
  let main_cst_6 : FVec F S_ .f32 := constant S_ .f32 0x7F800000#32
  let main_v25 : FVec F S64 .f32 := broadcastInDim S64 ![] bcast_S_S64 main_cst_6
  let main_v26 : IVec S64 1 := cmpf .olt main_v24 main_v25
  (main_v2, main_v6, main_v10, main_v14, main_v17, main_v20, main_v23, main_v26)

def fn {F : FTy → Type} [FloatOps F] (main_arg0 : FVec F S32x8 .f32) (main_arg1 : FVec F S8x2048x1024 .bf16) (main_arg2 : FVec F S8x1024x2048 .bf16) (main_arg3 : FVec F S8x2048x1024 .bf16) (main_arg4 : FVec F S64 .f32) (main_arg5 : FVec F S64 .f32) (main_arg6 : FVec F S64 .f32) (main_arg7 : FVec F S64 .f32) (main_arg8 : FVec F S128 .f32) : IVec S32x8 1 × IVec S8x2048x1024 1 × IVec S8x1024x2048 1 × IVec S8x2048x1024 1 × IVec S64 1 × IVec S64 1 × IVec S64 1 × IVec S64 1 :=
  let main_v0 : FVec F S32x8 .f32 := Host.absf main_arg0
  let main_cst : FVec F S_ .f32 := constant S_ .f32 0x7F800000#32
  let main_v1 : FVec F S32x8 .f32 := broadcastInDim S32x8 ![] bcast_S_S32x8 main_cst
  let main_v2 : IVec S32x8 1 := cmpf .olt main_v0 main_v1
  let main_v3 : FVec F S8x2048x1024 .f32 := (extf .f32 · bitsLt_bf16_f32) main_arg1
  let main_v4 : FVec F S8x2048x1024 .f32 := Host.absf main_v3
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_v7 : FVec F S8x1024x2048 .f32 := (extf .f32 · bitsLt_bf16_f32) main_arg2
  let main_v8 : FVec F S8x1024x2048 .f32 := Host.absf main_v7
  let main_cst_1 : FVec F S_ .f32 := constant S_ .f32 0x7F800000#32
  let main_v9 : FVec F S8x1024x2048 .f32 := broadcastInDim S8x1024x2048 ![] bcast_S_S8x1024x2048 main_cst_1
  let main_v10 : IVec S8x1024x2048 1 := cmpf .olt main_v8 main_v9
  let main_v11 : FVec F S8x2048x1024 .f32 := (extf .f32 · bitsLt_bf16_f32) main_arg3
  let main_v12 : FVec F S8x2048x1024 .f32 := Host.absf main_v11
  let main_cst_2 : FVec F S_ .f32 := constant S_ .f32 0x7F800000#32
  let main_v13 : FVec F S8x2048x1024 .f32 := broadcastInDim S8x2048x1024 ![] bcast_S_S8x2048x1024 main_cst_2
  let main_v14 : IVec S8x2048x1024 1 := cmpf .olt main_v12 main_v13
  let main_v15 : FVec F S64 .f32 := Host.absf main_arg4
  let main_cst_3 : FVec F S_ .f32 := constant S_ .f32 0x7F800000#32
  let main_v16 : FVec F S64 .f32 := broadcastInDim S64 ![] bcast_S_S64 main_cst_3
  let main_v17 : IVec S64 1 := cmpf .olt main_v15 main_v16
  let main_v18 : FVec F S64 .f32 := Host.absf main_arg5
  fn_part1 (F := F) main_arg6 main_arg7 main_v2 main_v6 main_v10 main_v14 main_v17 main_v18
-- ==== Kernel.lean ====
abbrev S32x8 : Shape := ⟨2, ![32, 8]⟩
abbrev S8x2048x1024 : Shape := ⟨3, ![8, 2048, 1024]⟩
abbrev S8x1024x2048 : Shape := ⟨3, ![8, 1024, 2048]⟩
abbrev S64 : Shape := ⟨1, ![64]⟩
abbrev S128 : Shape := ⟨1, ![128]⟩
abbrev S1x64 : Shape := ⟨2, ![1, 64]⟩
abbrev S4x64 : Shape := ⟨2, ![4, 64]⟩
abbrev S1x128 : Shape := ⟨2, ![1, 128]⟩
abbrev S1x2048x256 : Shape := ⟨3, ![1, 2048, 256]⟩
abbrev S1x256x2048 : Shape := ⟨3, ![1, 256, 2048]⟩
abbrev S8x2x256x256 : Shape := ⟨4, ![8, 2, 256, 256]⟩
abbrev S2x2048x256 : Shape := ⟨3, ![2, 2048, 256]⟩
abbrev S256x256 : Shape := ⟨2, ![256, 256]⟩
abbrev S1x1 : Shape := ⟨2, ![1, 1]⟩
abbrev S1x1x256x256 : Shape := ⟨4, ![1, 1, 256, 256]⟩
abbrev S2048x128 : Shape := ⟨2, ![2048, 128]⟩
abbrev S1x2048x128 : Shape := ⟨3, ![1, 2048, 128]⟩
abbrev S1 : Shape := ⟨1, ![1]⟩
abbrev S256x128 : Shape := ⟨2, ![256, 128]⟩
abbrev S1x256x128 : Shape := ⟨3, ![1, 256, 128]⟩
abbrev S512x128 : Shape := ⟨2, ![512, 128]⟩
abbrev S1x128x512 : Shape := ⟨3, ![1, 128, 512]⟩
abbrev S128x512 : Shape := ⟨2, ![128, 512]⟩
abbrev S512x512 : Shape := ⟨2, ![512, 512]⟩
abbrev S256x512 : Shape := ⟨2, ![256, 512]⟩
abbrev S256 : Shape := ⟨1, ![256]⟩
abbrev S256x1 : Shape := ⟨2, ![256, 1]⟩
abbrev S1x128x2048 : Shape := ⟨3, ![1, 128, 2048]⟩
abbrev S128x2048 : Shape := ⟨2, ![128, 2048]⟩
abbrev S512x2048 : Shape := ⟨2, ![512, 2048]⟩
abbrev S1x512x256 : Shape := ⟨3, ![1, 512, 256]⟩
abbrev S512x256 : Shape := ⟨2, ![512, 256]⟩
abbrev S256x2048 : Shape := ⟨2, ![256, 2048]⟩
abbrev S1x128x1792 : Shape := ⟨3, ![1, 128, 1792]⟩
abbrev S128x1792 : Shape := ⟨2, ![128, 1792]⟩
abbrev S512x1792 : Shape := ⟨2, ![512, 1792]⟩
abbrev S2048x256 : Shape := ⟨2, ![2048, 256]⟩
abbrev S256x1792 : Shape := ⟨2, ![256, 1792]⟩
abbrev S1x128x1536 : Shape := ⟨3, ![1, 128, 1536]⟩
abbrev S128x1536 : Shape := ⟨2, ![128, 1536]⟩
abbrev S512x1536 : Shape := ⟨2, ![512, 1536]⟩
abbrev S1x1792x256 : Shape := ⟨3, ![1, 1792, 256]⟩
abbrev S1792x256 : Shape := ⟨2, ![1792, 256]⟩
abbrev S256x1536 : Shape := ⟨2, ![256, 1536]⟩
abbrev S1x128x1280 : Shape := ⟨3, ![1, 128, 1280]⟩
abbrev S128x1280 : Shape := ⟨2, ![128, 1280]⟩
abbrev S512x1280 : Shape := ⟨2, ![512, 1280]⟩
abbrev S1x1536x256 : Shape := ⟨3, ![1, 1536, 256]⟩
abbrev S1536x256 : Shape := ⟨2, ![1536, 256]⟩
abbrev S256x1280 : Shape := ⟨2, ![256, 1280]⟩
abbrev S1x128x1024 : Shape := ⟨3, ![1, 128, 1024]⟩
abbrev S128x1024 : Shape := ⟨2, ![128, 1024]⟩
abbrev S512x1024 : Shape := ⟨2, ![512, 1024]⟩
abbrev S1x1280x256 : Shape := ⟨3, ![1, 1280, 256]⟩
abbrev S1280x256 : Shape := ⟨2, ![1280, 256]⟩
abbrev S256x1024 : Shape := ⟨2, ![256, 1024]⟩
abbrev S1x128x768 : Shape := ⟨3, ![1, 128, 768]⟩
abbrev S128x768 : Shape := ⟨2, ![128, 768]⟩
abbrev S512x768 : Shape := ⟨2, ![512, 768]⟩
abbrev S1x1024x256 : Shape := ⟨3, ![1, 1024, 256]⟩
abbrev S1024x256 : Shape := ⟨2, ![1024, 256]⟩
abbrev S256x768 : Shape := ⟨2, ![256, 768]⟩
abbrev S1x128x256 : Shape := ⟨3, ![1, 128, 256]⟩
abbrev S128x256 : Shape := ⟨2, ![128, 256]⟩
abbrev S1x768x256 : Shape := ⟨3, ![1, 768, 256]⟩
abbrev S768x256 : Shape := ⟨2, ![768, 256]⟩
abbrev S1x256x256 : Shape := ⟨3, ![1, 256, 256]⟩

abbrev nBuf : Space → Nat
  | .hbm => 16
  | .vmem => 12
  | .smem => 1
  | _ => 0

abbrev bufTy : (tb : Table) → Fin (tcTables nBuf tb) → BufTy
  | .hbm, ⟨0, _⟩ => ⟨S32x8, .f32⟩
  | .hbm, ⟨1, _⟩ => ⟨S8x2048x1024, .bf16⟩
  | .hbm, ⟨2, _⟩ => ⟨S8x1024x2048, .bf16⟩
  | .hbm, ⟨3, _⟩ => ⟨S8x2048x1024, .bf16⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S4x64, .f32⟩
  | .hbm, ⟨14, _⟩ => ⟨S1x128, .f32⟩
  | .hbm, ⟨15, _⟩ => ⟨S8x2048x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x256x2048, .bf16⟩
  | .local _ .vmem, ⟨3, _⟩ => ⟨S1x256x2048, .bf16⟩
  | .local _ .vmem, ⟨4, _⟩ => ⟨S1x2048x256, .bf16⟩
  | .local _ .vmem, ⟨5, _⟩ => ⟨S1x2048x256, .bf16⟩
  | .local _ .vmem, ⟨6, _⟩ => ⟨S4x64, .f32⟩
  | .local _ .vmem, ⟨7, _⟩ => ⟨S1x128, .f32⟩
  | .local _ .vmem, ⟨8, _⟩ => ⟨S1x2048x256, .bf16⟩
  | .local _ .vmem, ⟨9, _⟩ => ⟨S1x2048x256, .bf16⟩
  | .local _ .vmem, ⟨10, _⟩ => ⟨S8x2x256x256, .f32⟩
  | .local _ .vmem, ⟨11, _⟩ => ⟨S2x2048x256, .bf16⟩
  | .local _ .smem, ⟨0, _⟩ => ⟨S32x8, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def k0_off1 (i : grid0.Coords) (c0_i32_36 : BitVec 32) : Fin 4 → Nat :=
  let arg1 : BitVec 32 := BitVec.ofNat 32 (i 1).val
  let c2_i32 : BitVec 32 := 2#32
  let v0 : BitVec 32 := Scalar.muli arg1 c2_i32
  let v70 : BitVec 32 := Scalar.addi v0 c0_i32_36
  let v73 : Index := Scalar.indexCast v70
  let c0_37 : Index := 0#32
  let c0_38 : Index := 0#32
  let c0_39 : Index := 0#32
  ![v73.toNat, 0, 0, 0]
def k0_off2 (i : grid0.Coords) (c0_i32_36 : BitVec 32) : Fin 4 → Nat :=
  let arg1 : BitVec 32 := BitVec.ofNat 32 (i 1).val
  let c2_i32 : BitVec 32 := 2#32
  let v0 : BitVec 32 := Scalar.muli arg1 c2_i32
  let v70 : BitVec 32 := Scalar.addi v0 c0_i32_36
  let v77 : Index := Scalar.indexCast v70
  let c1_40 : Index := 1#32
  let c0_41 : Index := 0#32
  let c0_42 : Index := 0#32
  ![v77.toNat, 1, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S32x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "scale_log2e" => some (((1 / 8) * (Real.log 2)⁻¹ : ℝ) : EReal)
  | _ => none
-- ==== ReferenceIdeal.lean ====
abbrev S32x8 : Shape := ⟨2, ![32, 8]⟩
abbrev S8x2048x1024 : Shape := ⟨3, ![8, 2048, 1024]⟩
abbrev S8x1024x2048 : Shape := ⟨3, ![8, 1024, 2048]⟩
abbrev S64 : Shape := ⟨1, ![64]⟩
abbrev S128 : Shape := ⟨1, ![128]⟩
abbrev S8x2048x8x2x64 : Shape := ⟨5, ![8, 2048, 8, 2, 64]⟩
abbrev S_ : Shape := ⟨0, ![]⟩
abbrev S8x2048x8x128 : Shape := ⟨4, ![8, 2048, 8, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x8 : Shape := ⟨3, ![2048, 2048, 8]⟩
abbrev S8x2048x2048 : Shape := ⟨3, ![8, 2048, 2048]⟩
abbrev S8x8x2x2048x2048 : Shape := ⟨5, ![8, 8, 2, 2048, 2048]⟩
abbrev S1x8x1x2048x2048 : Shape := ⟨5, ![1, 8, 1, 2048, 2048]⟩
abbrev S1x1x1x2048x2048 : Shape := ⟨5, ![1, 1, 1, 2048, 2048]⟩
abbrev S8x8x2x2048 : Shape := ⟨4, ![8, 8, 2, 2048]⟩
abbrev S8x8x2x2048x1 : Shape := ⟨5, ![8, 8, 2, 2048, 1]⟩
abbrev S8x8x1x2048x2048 : Shape := ⟨5, ![8, 8, 1, 2048, 2048]⟩
abbrev S8x8x2048x2048 : Shape := ⟨4, ![8, 8, 2048, 2048]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩

abbrev nBuf : Space → Nat
  | .hbm => 131
  | .vmem => 0
  | .smem => 0
  | _ => 0

abbrev hbmTy0_0 (i : Nat) : BufTy := match i % 128 with
  | 0 => ⟨S32x8, .f32⟩
  | 1 => ⟨S8x2048x1024, .bf16⟩
  | 2 => ⟨S8x1024x2048, .bf16⟩
  | 3 => ⟨S8x2048x1024, .bf16⟩
  | 4 => ⟨S64, .f32⟩
  | 5 => ⟨S64, .f32⟩
  | 6 => ⟨S64, .f32⟩
  | 7 => ⟨S64, .f32⟩
  | 8 => ⟨S128, .f32⟩
  | 9 => ⟨S8x2048x1024, .f32⟩
  | 10 => ⟨S8x2048x8x2x64, .f32⟩
  | 11 => ⟨S_, .f32⟩
  | 12 => ⟨S8x2048x8x2x64, .f32⟩
  | 13 => ⟨S8x2048x8x2x64, .f32⟩
  | 14 => ⟨S8x1024x2048, .f32⟩
  | 15 => ⟨S8x2048x1024, .f32⟩
  | 16 => ⟨S8x2048x8x2x64, .f32⟩
  | 17 => ⟨S8x2048x1024, .f32⟩
  | 18 => ⟨S8x2048x8x128, .f32⟩
  | 19 => ⟨S64, .f32⟩
  | 20 => ⟨S_, .f32⟩
  | 21 => ⟨S_, .f32⟩
  | 22 => ⟨S_, .f32⟩
  | 23 => ⟨S64, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S2048, .i32⟩
  | 31 => ⟨S2048x1, .i32⟩
  | 32 => ⟨S1x2048, .i32⟩
  | 33 => ⟨S2048x2048, .i32⟩
  | 34 => ⟨S2048x2048, .i32⟩
  | 35 => ⟨S2048x2048, .i32⟩
  | 36 => ⟨S_, .i32⟩
  | 37 => ⟨S2048x2048, .i32⟩
  | 38 => ⟨S2048x2048, .i32⟩
  | 39 => ⟨S_, .i32⟩
  | 40 => ⟨S2048x2048, .i32⟩
  | 41 => ⟨S2048x2048, .i1⟩
  | 42 => ⟨S_, .i32⟩
  | 43 => ⟨S2048x2048, .i32⟩
  | 44 => ⟨S2048x2048, .i32⟩
  | 45 => ⟨S2048x2048, .f32⟩
  | 46 => ⟨S_, .f32⟩
  | 47 => ⟨S2048x2048, .f32⟩
  | 48 => ⟨S2048x2048, .f32⟩
  | 49 => ⟨S2048x2048, .f32⟩
  | 50 => ⟨S_, .f32⟩
  | 51 => ⟨S2048x2048, .f32⟩
  | 52 => ⟨S2048x2048, .f32⟩
  | 53 => ⟨S_, .f32⟩
  | 54 => ⟨S2048x2048, .f32⟩
  | 55 => ⟨S2048x2048, .f32⟩
  | 56 => ⟨S2048x2048, .i32⟩
  | 57 => ⟨S_, .i32⟩
  | 58 => ⟨S2048x2048, .i32⟩
  | 59 => ⟨S2048x2048, .i32⟩
  | 60 => ⟨S_, .i32⟩
  | 61 => ⟨S2048x2048, .i32⟩
  | 62 => ⟨S2048x2048, .i32⟩
  | 63 => ⟨S2048x2048, .i32⟩
  | 64 => ⟨S_, .i32⟩
  | 65 => ⟨S2048x2048, .i32⟩
  | 66 => ⟨S2048x2048, .i1⟩
  | 67 => ⟨S_, .i32⟩
  | 68 => ⟨S2048x2048, .i32⟩
  | 69 => ⟨S2048x2048, .i32⟩
  | 70 => ⟨S2048x2048, .i32⟩
  | 71 => ⟨S2048x2048x1, .i32⟩
  | 72 => ⟨S2048x2048x8, .f32⟩
  | 73 => ⟨S8x2048x2048, .f32⟩
  | 74 => ⟨S8x8x2x2048x2048, .f32⟩
  | 75 => ⟨S1x8x1x2048x2048, .f32⟩
  | 76 => ⟨S8x8x2x2048x2048, .f32⟩
  | 77 => ⟨S8x8x2x2048x2048, .f32⟩
  | 78 => ⟨S_, .i32⟩
  | 79 => ⟨S2048x2048, .i32⟩
  | 80 => ⟨S2048x2048, .i1⟩
  | 81 => ⟨S1x1x1x2048x2048, .i1⟩
  | 82 => ⟨S_, .f32⟩
  | 83 => ⟨S_, .f32⟩
  | 84 => ⟨S8x8x2x2048x2048, .i1⟩
  | 85 => ⟨S8x8x2x2048x2048, .f32⟩
  | 86 => ⟨S8x8x2x2048x2048, .f32⟩
  | 87 => ⟨S_, .f32⟩
  | 88 => ⟨S8x8x2x2048, .f32⟩
  | 89 => ⟨S_, .f32⟩
  | 90 => ⟨S8x8x2x2048, .f32⟩
  | 91 => ⟨S8x8x2x2048, .f32⟩
  | 92 => ⟨S8x8x2x2048x1, .f32⟩
  | 93 => ⟨S8x8x2x2048x2048, .f32⟩
  | 94 => ⟨S8x8x2x2048x2048, .f32⟩
  | 95 => ⟨S8x8x2x2048x2048, .f32⟩
  | 96 => ⟨S_, .f32⟩
  | 97 => ⟨S8x8x2x2048, .f32⟩
  | 98 => ⟨S8x8x2x2048x1, .f32⟩
  | 99 => ⟨S8x8x2x2048x2048, .f32⟩
  | 100 => ⟨S8x8x2x2048x2048, .f32⟩
  | 101 => ⟨S8x8x1x2048x2048, .f32⟩
  | 102 => ⟨S8x8x2048x2048, .f32⟩
  | 103 => ⟨S8x8x1x2048x2048, .f32⟩
  | 104 => ⟨S8x8x2048x2048, .f32⟩
  | 105 => ⟨S8x8x2048x2048, .f32⟩
  | 106 => ⟨S8x8x2048x2048, .f32⟩
  | 107 => ⟨S8x8x2048x2048, .f32⟩
  | 108 => ⟨S8x8x128x2048, .f32⟩
  | 109 => ⟨S8x2048x8x128, .f32⟩
  | 110 => ⟨S8x2048x8x128, .f32⟩
  | 111 => ⟨S_, .f32⟩
  | 112 => ⟨S8x2048x8, .f32⟩
  | 113 => ⟨S8x2048x8x1, .f32⟩
  | 114 => ⟨S_, .f32⟩
  | 115 => ⟨S8x2048x8x1, .f32⟩
  | 116 => ⟨S8x2048x8x1, .f32⟩
  | 117 => ⟨S_, .f32⟩
  | 118 => ⟨S8x2048x8x1, .f32⟩
  | 119 => ⟨S8x2048x8x1, .f32⟩
  | 120 => ⟨S8x2048x8x1, .f32⟩
  | 121 => ⟨S8x2048x8x128, .f32⟩
  | 122 => ⟨S8x2048x8x128, .f32⟩
  | 123 => ⟨S1x1x1x128, .f32⟩
  | 124 => ⟨S8x2048x8x128, .f32⟩
  | 125 => ⟨S8x2048x8x128, .f32⟩
  | 126 => ⟨S_, .f32⟩
  | 127 => ⟨S8x2048x8x128, .f32⟩
  | _ => ⟨S32x8, .f32⟩

abbrev hbmTy0_1 (i : Nat) : BufTy := match i % 128 with
  | 0 => ⟨S8x2048x8x128, .f32⟩
  | 1 => ⟨S8x2048x1024, .f32⟩
  | 2 => ⟨S8x2048x1024, .bf16⟩
  | _ => ⟨S32x8, .f32⟩

abbrev hbmTy (i : Nat) : BufTy := match i / 128 with
  | 0 => hbmTy0_0 i
  | 1 => hbmTy0_1 i
  | _ => ⟨S32x8, .f32⟩

abbrev bufTy : (tb : Table) → Fin (tcTables nBuf tb) → BufTy
  | .hbm, ⟨i, _⟩ => hbmTy i
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_c_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_v58 : Ref sig .tc := ⟨.hbm, 86, rfl⟩
abbrev main_cst_14 : Ref sig .tc := ⟨.hbm, 87, rfl⟩
abbrev main_v59 : Ref sig .tc := ⟨.hbm, 88, rfl⟩
abbrev main_cst_15 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_v81 : Ref sig .tc := ⟨.hbm, 113, rfl⟩
abbrev main_cst_18 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩

abbrev nD : Nat := 1
abbrev τ : Topo := Topo.v7x

variable {F : FTy → Type} [FloatOps F]
-- ==== Kernel2.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1024x1024, .f32⟩
  | .local _ .vmem, ⟨9, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S16384x1024 : Shape := ⟨2, ![16384, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S4096x1024, .bf16⟩
  | .hbm, ⟨6, _⟩ => ⟨S16384x1024, .f32⟩
  | .hbm, ⟨7, _⟩ => ⟨S1024x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S1024x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S4096x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S2x1024x1024 : Shape := ⟨3, ![2, 1024, 1024]⟩
abbrev S64 : Shape := ⟨1, ![64]⟩
abbrev S1024x2048 : Shape := ⟨2, ![1024, 2048]⟩
abbrev S4x1024x4096 : Shape := ⟨3, ![4, 1024, 4096]⟩
abbrev S4x4096x1024 : Shape := ⟨3, ![4, 4096, 1024]⟩
abbrev S256x256 : Shape := ⟨2, ![256, 256]⟩
abbrev S1x64 : Shape := ⟨2, ![1, 64]⟩
abbrev S16x64 : Shape := ⟨2, ![16, 64]⟩
abbrev S1x1024 : Shape := ⟨2, ![1, 1024]⟩
abbrev S64x1 : Shape := ⟨2, ![64, 1]⟩
abbrev S8x1024x2048 : Shape := ⟨3, ![8, 1024, 2048]⟩
abbrev S1024x1024 : Shape := ⟨2, ![1024, 1024]⟩
abbrev S1024x4096 : Shape := ⟨2, ![1024, 4096]⟩
abbrev S4096x1024 : Shape := ⟨2, ![4096, 1024]⟩
abbrev S1x64x1024 : Shape := ⟨3, ![1, 64, 1024]⟩
abbrev S1x64x4096 : Shape := ⟨3, ![1, 64, 4096]⟩
abbrev S1x256x1024 : Shape := ⟨3, ![1, 256, 1024]⟩
abbrev S1x1024x1024 : Shape := ⟨3, ![1, 1024, 1024]⟩
abbrev S64x1024 : Shape := ⟨2, ![64, 1024]⟩
abbrev S64x4096 : Shape := ⟨2, ![64, 4096]⟩
abbrev S256x1024 : Shape := ⟨2, ![256, 1024]⟩
abbrev S1024x1 : Shape := ⟨2, ![1024, 1]⟩
abbrev S1024x256 : Shape := ⟨2, ![1024, 256]⟩
abbrev S16x64x1024 : Shape := ⟨3, ![16, 64, 1024]⟩
abbrev S16x1024 : Shape := ⟨2, ![16, 1024]⟩
abbrev S16x1x1024 : Shape := ⟨3, ![16, 1, 1024]⟩
abbrev S1x64x1 : Shape := ⟨3, ![1, 64, 1]⟩

abbrev nBuf : Space → Nat
  | .hbm => 24
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S2x1024x1024, .f32⟩
  | .hbm, ⟨3, _⟩ => ⟨S64, .f32⟩
  | .hbm, ⟨4, _⟩ => ⟨S1024, .f32⟩
  | .hbm, ⟨5, _⟩ => ⟨S1024x2048, .f32⟩
  | .hbm, ⟨6, _⟩ => ⟨S64, .f32⟩
  | .hbm, ⟨7, _⟩ => ⟨S2x1024x1024, .f32⟩
  | .hbm, ⟨8, _⟩ => ⟨S4x1024x4096, .f32⟩
  | .hbm, ⟨9, _⟩ => ⟨S4x4096x1024, .f32⟩
  | .hbm, ⟨10, _⟩ => ⟨S256x256, .bf16⟩
  | .hbm, ⟨11, _⟩ => ⟨S1x64, .f32⟩
  | .hbm, ⟨12, _⟩ => ⟨S16x64, .f32⟩
  | .hbm, ⟨13, _⟩ => ⟨S1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S64x1, .f32⟩
  | .hbm, ⟨18, _⟩ => ⟨S8x2048x1024, .bf16⟩
  | .hbm, ⟨19, _⟩ => ⟨S8x1024x2048, .bf16⟩
  | .hbm, ⟨20, _⟩ => ⟨S8x2048x1024, .bf16⟩
  | .hbm, ⟨21, _⟩ => ⟨S1024x1024, .bf16⟩
  | .hbm, ⟨22, _⟩ => ⟨S1024x4096, .bf16⟩
  | .hbm, ⟨23, _⟩ => ⟨S4096x1024, .bf16⟩
  | .local _ .vmem, ⟨0, _⟩ => ⟨S1x64x1024, .f32⟩
  | .local _ .vmem, ⟨1, _⟩ => ⟨S1x64x1024, .f32⟩
  | .local _ .vmem, ⟨2, _⟩ => ⟨S1x64x4096, .f32⟩
  | .local _ .vmem, ⟨3, _⟩ => ⟨S1x64x4096, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024, .f32⟩
  | .local _ .vmem, ⟨9, _⟩ => ⟨S1x1024x1024, .f32⟩
  | .local _ .vmem, ⟨10, _⟩ => ⟨S256x256, .bf16⟩
  | .local _ .vmem, ⟨11, _⟩ => ⟨S1x1024, .f32⟩
  | .local _ .vmem, ⟨12, _⟩ => ⟨S1x1024, .f32⟩
  | .local _ .vmem, ⟨13, _⟩ => ⟨S1024x2048, .f32⟩
  | .local _ .vmem, ⟨14, _⟩ => ⟨S64x1, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S64x1024, .bf16⟩
  | .local _ .vmem, ⟨22, _⟩ => ⟨S64x1024, .bf16⟩
  | .local _ .vmem, ⟨23, _⟩ => ⟨S64x4096, .bf16⟩
  | .local _ .vmem, ⟨24, _⟩ => ⟨S64x4096, .bf16⟩
  | .local _ .vmem, ⟨25, _⟩ => ⟨S256x1024, .bf16⟩
  | .local _ .vmem, ⟨26, _⟩ => ⟨S256x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev main_v7_4 : Ref sig .tc := ⟨.hbm, 22, rfl⟩
abbrev main_v7_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c2_i32_0 : BitVec 32 := 2#32
  let c0_i32 : BitVec 32 := 0#32
  let c0_i32_1 : BitVec 32 := 0#32
  ![c2_i32_0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c2_i32_0 : BitVec 32 := 2#32
  let c0_i32 : BitVec 32 := 0#32
  let c0_i32_1 : BitVec 32 := 0#32
  ![c2_i32_0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x2048x1024 : Shape := ⟨3, ![8, 2048, 1024]⟩
abbrev S1024 : Shape := ⟨1, ![1024]⟩
abbrev S2x1024x1024 : Shape := ⟨3, ![2, 1024, 1024]⟩
abbrev S64 : Shape := ⟨1, ![64]⟩
abbrev S1024x2048 : Shape := ⟨2, ![1024, 2048]⟩
abbrev S4x1024x4096 : Shape := ⟨3, ![4, 1024, 4096]⟩
abbrev S4x4096x1024 : Shape := ⟨3, ![4, 4096, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x2048x8x2x64 : Shape := ⟨5, ![8, 2048, 8, 2, 64]⟩
abbrev S8x2048x8x2 : Shape := ⟨4, ![8, 2048, 8, 2]⟩
abbrev S8x2048x8x2x1 : Shape := ⟨5, ![8, 2048, 8, 2, 1]⟩
abbrev S1x1x1x1x64 : Shape := ⟨5, ![1, 1, 1, 1, 64]⟩
abbrev S8x2048x2048 : Shape := ⟨3, ![8, 2048, 2048]⟩
abbrev S8x1024x2048 : Shape := ⟨3, ![8, 1024, 2048]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S2x1024x1024, .f32⟩
  | .hbm, ⟨3, _⟩ => ⟨S64, .f32⟩
  | .hbm, ⟨4, _⟩ => ⟨S1024, .f32⟩
  | .hbm, ⟨5, _⟩ => ⟨S1024x2048, .f32⟩
  | .hbm, ⟨6, _⟩ => ⟨S64, .f32⟩
  | .hbm, ⟨7, _⟩ => ⟨S2x1024x1024, .f32⟩
  | .hbm, ⟨8, _⟩ => ⟨S4x1024x4096, .f32⟩
  | .hbm, ⟨9, _⟩ => ⟨S4x4096x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S1x1024x1024, .f32⟩
  | .hbm, ⟨27, _⟩ => ⟨S1024x1024, .f32⟩
  | .hbm, ⟨28, _⟩ => ⟨S8x2048x1024, .f32⟩
  | .hbm, ⟨29, _⟩ => ⟨S8x2048x8x2x64, .f32⟩
  | .hbm, ⟨30, _⟩ => ⟨S8x2048x8x2x64, .f32⟩
  | .hbm, ⟨31, _⟩ => ⟨S_, .f32⟩
  | .hbm, ⟨32, _⟩ => ⟨S8x2048x8x2, .f32⟩
  | .hbm, ⟨33, _⟩ => ⟨S8x2048x8x2x1, .f32⟩
  | .hbm, ⟨34, _⟩ => ⟨S_, .f32⟩
  | .hbm, ⟨35, _⟩ => ⟨S8x2048x8x2x1, .f32⟩
  | .hbm, ⟨36, _⟩ => ⟨S8x2048x8x2x1, .f32⟩
  | .hbm, ⟨37, _⟩ => ⟨S_, .f32⟩
  | .hbm, ⟨38, _⟩ => ⟨S8x2048x8x2x1, .f32⟩
  | .hbm, ⟨39, _⟩ => ⟨S8x2048x8x2x1, .f32⟩
  | .hbm, ⟨40, _⟩ => ⟨S8x2048x8x2x1, .f32⟩
  | .hbm, ⟨41, _⟩ => ⟨S8x2048x8x2x64, .f32⟩
  | .hbm, ⟨42, _⟩ => ⟨S8x2048x8x2x64, .f32⟩
  | .hbm, ⟨43, _⟩ => ⟨S1x1x1x1x64, .f32⟩
  | .hbm, ⟨44, _⟩ => ⟨S8x2048x8x2x64, .f32⟩
  | .hbm, ⟨45, _⟩ => ⟨S8x2048x8x2x64, .f32⟩
  | .hbm, ⟨46, _⟩ => ⟨S8x2048x1024, .f32⟩
  | .hbm, ⟨47, _⟩ => ⟨S8x2048x1024, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1, .f32⟩
  | .hbm, ⟨58, _⟩ => ⟨S8x2048x1024, .f32⟩
  | .hbm, ⟨59, _⟩ => ⟨S8x2048x1024, .f32⟩
  | .hbm, ⟨60, _⟩ => ⟨S1x1x1024, .f32⟩
  | .hbm, ⟨61, _⟩ => ⟨S8x2048x1024, .f32⟩
  | .hbm, ⟨62, _⟩ => ⟨S8x2048x1024, .f32⟩
  | .hbm, ⟨63, _⟩ => ⟨S8x2048x2048, .f32⟩
  | .hbm, ⟨64, _⟩ => ⟨S8x2048x1024, .f32⟩
  | .hbm, ⟨65, _⟩ => ⟨S8x2048x8x2x64, .f32⟩
  | .hbm, ⟨66, _⟩ => ⟨S8x2048x8x2x64, .f32⟩
  | .hbm, ⟨67, _⟩ => ⟨S_, .f32⟩
  | .hbm, ⟨68, _⟩ => ⟨S8x2048x8x2, .f32⟩
  | .hbm, ⟨69, _⟩ => ⟨S8x2048x8x2x1, .f32⟩
  | .hbm, ⟨70, _⟩ => ⟨S_, .f32⟩
  | .hbm, ⟨71, _⟩ => ⟨S8x2048x8x2x1, .f32⟩
  | .hbm, ⟨72, _⟩ => ⟨S8x2048x8x2x1, .f32⟩
  | .hbm, ⟨73, _⟩ => ⟨S_, .f32⟩
  | .hbm, ⟨74, _⟩ => ⟨S8x2048x8x2x1, .f32⟩
  | .hbm, ⟨75, _⟩ => ⟨S8x2048x8x2x1, .f32⟩
  | .hbm, ⟨76, _⟩ => ⟨S8x2048x8x2x1, .f32⟩
  | .hbm, ⟨77, _⟩ => ⟨S8x2048x8x2x64, .f32⟩
  | .hbm, ⟨78, _⟩ => ⟨S8x2048x8x2x64, .f32⟩
  | .hbm, ⟨79, _⟩ => ⟨S1x1x1x1x64, .f32⟩
  | .hbm, ⟨80, _⟩ => ⟨S8x2048x8x2x64, .f32⟩
  | .hbm, ⟨81, _⟩ => ⟨S8x2048x8x2x64, .f32⟩
  | .hbm, ⟨82, _⟩ => ⟨S8x2048x1024, .f32⟩
  | .hbm, ⟨83, _⟩ => ⟨S8x1024x2048, .f32⟩
  | .hbm, ⟨84, _⟩ => ⟨S8x2048x1024, .f32⟩
  | .hbm, ⟨85, _⟩ => ⟨S1x1024x1024, .f32⟩
  | .hbm, ⟨86, _⟩ => ⟨S1024x1024, .f32⟩
  | .hbm, ⟨87, _⟩ => ⟨S1x1024x4096, .f32⟩
  | .hbm, ⟨88, _⟩ => ⟨S1024x4096, .f32⟩
  | .hbm, ⟨89, _⟩ => ⟨S1x4096x1024, .f32⟩
  | .hbm, ⟨90, _⟩ => ⟨S4096x1024, .f32⟩
  | .hbm, ⟨91, _⟩ => ⟨S8x2048x1024, .bf16⟩
  | .hbm, ⟨92, _⟩ => ⟨S8x1024x2048, .bf16⟩
  | .hbm, ⟨93, _⟩ => ⟨S8x2048x1024, .bf16⟩
  | .hbm, ⟨94, _⟩ => ⟨S1024x1024, .bf16⟩
  | .hbm, ⟨95, _⟩ => ⟨S1024x4096, .bf16⟩
  | .hbm, ⟨96, _⟩ => ⟨S4096x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Proof.Attn.Vocab.lean ====
/- The vector operations of one query tile of the attention kernel, named once at a variable number of keys, and what
   each of them holds at an index. -/
module

public import proofs.«01_k».proof.Proof.Gen.KernelIdeal.Skeleton
public import Idealize.ShloMosaic.Lib.Pointwise
public import Idealize.ShloMosaic.Lib.MatmulPlain
public import Idealize.ShloMosaic.Lib.Pipeline.Value

@[expose] public section

set_option maxRecDepth 16384

noncomputable section

namespace Cert.Attn

open Cert.KernelIdeal Cert.KernelIdeal.Gen Idealize.ShloMosaic Idealize.ShloMosaic.ValueIdx
open scoped BigOperators

/-- The queries of a tile, scaled, stacked twice: the first copy keeps lanes below 64, the second the others. -/
def stackedQ (q : Vec Ideal S1x256x128 .bf16) : FVec Ideal S512x128 .bf16 :=
  concatenate S512x128 0
    [⟨S256x128, select (cmpi .slt (iota .tc S256x128 32 [1] iota_S256x128_d1_w32) (broadcast S256x128 64#32))
      (truncf .bf16 (mulf (extf .f32 (shapeCast S256x128 q shapeCasts_S1x256x128_S256x128) bitsLt_bf16_f32)
        (broadcast S256x128 (Named.named (F := Ideal) κ "scale_log2e" 0x3E38AA3B#32))) bitsLt_bf16_f32)
      (broadcast S256x128 (Scalar.ofBits .bf16 0x0000#16))⟩,
     ⟨S256x128, select (cmpi .sge (iota .tc S256x128 32 [1] iota_S256x128_d1_w32) (broadcast S256x128 64#32))
      (truncf .bf16 (mulf (extf .f32 (shapeCast S256x128 q shapeCasts_S1x256x128_S256x128) bitsLt_bf16_f32)
        (broadcast S256x128 (Named.named (F := Ideal) κ "scale_log2e" 0x3E38AA3B#32))) bitsLt_bf16_f32)
      (broadcast S256x128 (Scalar.ofBits .bf16 0x0000#16))⟩] concatenates_S256x128_S256x128_S512x128_d0

/-- The scores of a tile against `W` keys. -/
def scoresV (W : ℕ) (hk : (⟨3, ![1, 128, W]⟩ : Shape).ShapeCasts ⟨2, ![128, W]⟩)
    (q : FVec Ideal S512x128 .bf16) (kt : Vec Ideal ⟨3, ![1, 128, W]⟩ .bf16) : FVec Ideal ⟨2, ![512, W]⟩ .f32 :=
  matmul (F := Ideal) (DotDims.plain 512 128 W) none q (shapeCast ⟨2, ![128, W]⟩ kt hk : FVec Ideal ⟨2, ![128, W]⟩ .bf16) (constant ⟨2, ![512, W]⟩ .f32 0x00000000#32)

/-- Piece `j` of the `n` blocks of 256 keys: the scores, with the bias tiles added to the last two. -/
def pieceV (n W o : ℕ) (hs : ∀ j : Fin n, (⟨2, ![512, W]⟩ : Shape).Slices ![o, 256 * j.val] S256x256)
    (s : FVec Ideal ⟨2, ![512, W]⟩ .f32) (bd bo : Vec Ideal S1x1x256x256 .f32) (j : Fin n) : FVec Ideal S256x256 .f32 :=
  if j.val + 1 = n then addf (extractStridedSlice S256x256 ![o, 256 * j.val] s (hs j)) (shapeCast S256x256 bd shapeCasts_S1x1x256x256_S256x256)
  else if j.val + 2 = n then addf (extractStridedSlice S256x256 ![o, 256 * j.val] s (hs j)) (shapeCast S256x256 bo shapeCasts_S1x1x256x256_S256x256)
  else extractStridedSlice S256x256 ![o, 256 * j.val] s (hs j)

/-- The biased scores of one half of the heads' two products: the pieces side by side. -/
def rowsV (n W o : ℕ) (hs : ∀ j : Fin n, (⟨2, ![512, W]⟩ : Shape).Slices ![o, 256 * j.val] S256x256)
    (hc : Shape.Concatenates ((List.ofFn fun j : Fin n => (⟨S256x256, (fun _ => (0 : EReal))⟩ : (s : Shape) × (s.Idx → EReal))).map (·.1)) ⟨2, ![256, W]⟩ 1)
    (s : FVec Ideal ⟨2, ![512, W]⟩ .f32) (bd bo : Vec Ideal S1x1x256x256 .f32) : FVec Ideal ⟨2, ![256, W]⟩ .f32 :=
  concatenate ⟨2, ![256, W]⟩ 1 (List.ofFn fun j : Fin n => (⟨S256x256, pieceV n W o hs s bd bo j⟩ : (s : Shape) × (s.Idx → EReal)))
    (by simpa [Function.comp_def] using hc)

/-- The unnormalised probabilities of a row: `2 ^ (score - the row's maximum)`. -/
def probV (W : ℕ) (hr : (⟨2, ![256, W]⟩ : Shape).Reduces [1] S256) (hb : S256x1.Broadcasts ⟨2, ![256, W]⟩)
    (x : FVec Ideal ⟨2, ![256, W]⟩ .f32) : FVec Ideal ⟨2, ![256, W]⟩ .bf16 :=
  truncf .bf16 (exp2 (subf x (broadcastTo ⟨2, ![256, W]⟩ (shapeCast S256x1
    (multiReduction .maximumf [1] S256 x 0xFF800000#32 hr (.inl rfl) rfl) shapeCasts_S256_S256x1) hb))) bitsLt_bf16_f32

/-- The weighted sums of the values and, in lane 128, of the ones. -/
def accV (W : ℕ) (hc : Shape.Concatenates [⟨2, ![256, W]⟩, ⟨2, ![256, W]⟩] ⟨2, ![512, W]⟩ 0)
    (hv : (⟨3, ![1, W, 256]⟩ : Shape).ShapeCasts ⟨2, ![W, 256]⟩)
    (p0 p1 : FVec Ideal ⟨2, ![256, W]⟩ .bf16) (va : Vec Ideal ⟨3, ![1, W, 256]⟩ .bf16) : FVec Ideal S512x256 .f32 :=
  matmul (F := Ideal) (DotDims.plain 512 W 256) none
    (concatenate ⟨2, ![512, W]⟩ 0 [⟨⟨2, ![256, W]⟩, p0⟩, ⟨⟨2, ![256, W]⟩, p1⟩] hc) (shapeCast ⟨2, ![W, 256]⟩ va hv : FVec Ideal ⟨2, ![W, 256]⟩ .bf16)
    (constant S512x256 .f32 0x00000000#32)

/-- The difference of the two normalised halves. -/
def diffV (lam : FVec Ideal S1x1 .f32) (acc : FVec Ideal S512x256 .f32) : FVec Ideal S256x128 .f32 :=
  subf (divf (extractStridedSlice S256x128 ![0, 0] acc slices_S512x256_o0_0_S256x128)
      (broadcastTo S256x128 (extractStridedSlice S256x1 ![0, 128] acc slices_S512x256_o0_128_S256x1) broadcasts_S256x1_S256x128))
    (mulf (broadcastTo S256x128 lam broadcasts_S1x1_S256x128)
      (divf (extractStridedSlice S256x128 ![256, 0] acc slices_S512x256_o256_0_S256x128)
        (broadcastTo S256x128 (extractStridedSlice S256x1 ![256, 128] acc slices_S512x256_o256_128_S256x1) broadcasts_S256x1_S256x128)))

/-- The normalised and scaled rows, as they are stored. -/
def normV (o : FVec Ideal S256x128 .f32) (sub : Vec Ideal S1x128 .f32) : FVec Ideal S1x256x128 .bf16 :=
  shapeCast S1x256x128 (truncf .bf16 (mulf (mulf (mulf o (broadcastTo S256x128 (rsqrt (addf (divf
      (shapeCast S256x1 (multiReduction .add [1] S256 (mulf o o) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 (shapeCast S1x128 sub shapeCasts_S1x128_S1x128) broadcasts_S1x128_S256x128))
    (broadcast S256x128 (Scalar.ofBits .f32 0x3F077F5A#32))) bitsLt_bf16_f32) shapeCasts_S256x128_S1x256x128

end Cert.Attn

end
-- ==== Proof.Attn.VocabRead.lean ====
/- What each operation of Vocab.lean holds at an index. -/
module

public import proofs.«01_k».proof.Proof.Attn.Vocab
public import Idealize.ShloMosaic.Lib.WordCmp

@[expose] public section

set_option maxRecDepth 16384

noncomputable section

namespace Cert.Attn

open Cert.KernelIdeal Cert.KernelIdeal.Gen Idealize.ShloMosaic
open scoped BigOperators

/-- The factor the queries are scaled by. -/
abbrev qscale : EReal := (((1 / 8) * (Real.log 2)⁻¹ : ℝ) : EReal)

/-- A selection by a word that holds exactly where `P` does. -/
theorem select_of_iff {α : Type} {c : BitVec 1} {P : Prop} [Decidable P] (a b : α) (h : c = 1#1 ↔ P) :
    Scalar.select c a b = if P then a else b := by
  unfold Scalar.select
  by_cases hP : P
  · rw [if_pos hP]; exact if_pos (h.2 hP)
  · rw [if_neg hP]; exact if_neg fun hc => hP (h.1 hc)

/-- A row of the first copy: lanes below 64, scaled. -/
theorem stackedQ_apply_lo (q : Vec Ideal S1x256x128 .bf16) (r : Fin 256) (d : Fin 128) :
    stackedQ q (ix2 ⟨r.val, by omega⟩ d) = if d.val < 64 then (q (ix3 0 r d) : EReal) * qscale else 0 := by
  unfold stackedQ
  rw [concatenate_pair_apply_left (t := S512x128) (s₁ := S256x128) (s₂ := S256x128) 0 _ _ _ _ rfl (ix2 r d) (by intro b; fin_cases b <;> rfl)]
  pointwise
  rw [IdealRules.named_const.ideal_named_scalar (κ := κ) (name := "scale_log2e") (φ := .f32) 0x3E38AA3B#32 qscale rfl]
  rw [select_of_iff _ _ (WordCmp.cmpi_slt_ofNat_eq_one_iff (w := 32) (a := d.val) (b := 64) (by omega) (by decide))]

/-- A row of the second copy: lanes from 64 on, scaled. -/
theorem stackedQ_apply_hi (q : Vec Ideal S1x256x128 .bf16) (r : Fin 256) (d : Fin 128) :
    stackedQ q (ix2 ⟨256 + r.val, by omega⟩ d) = if d.val < 64 then 0 else (q (ix3 0 r d) : EReal) * qscale := by
  unfold stackedQ
  rw [concatenate_pair_apply_right (t := S512x128) (s₁ := S256x128) (s₂ := S256x128) 0 _ _ _ _ rfl rfl (ix2 r d) (by intro b; fin_cases b <;> simp)
    (by simp [ix2]; omega)]
  pointwise
  rw [IdealRules.named_const.ideal_named_scalar (κ := κ) (name := "scale_log2e") (φ := .f32) 0x3E38AA3B#32 qscale rfl]
  rw [select_of_iff _ _ (WordCmp.cmpi_sge_ofNat_eq_one_iff (w := 32) (a := d.val) (b := 64) (by omega) (by decide))]
  split_ifs <;> first | rfl | omega

/-- A score: the product of the row and the key's column. -/
theorem scoresV_apply (W : ℕ) (hk) (q : FVec Ideal S512x128 .bf16) (kt : Vec Ideal ⟨3, ![1, 128, W]⟩ .bf16) (r : Fin 512) (k : Fin W) :
    scoresV W hk q kt (ix2 r k) = ∑ d : Fin 128, (q (ix2 r d) : EReal) * (kt (ix3 0 d k) : EReal) := by
  unfold scoresV
  refine (Ideal.matmul_plain_apply _ _ _ _ r k).trans ?_
  rw [show constant (F := Ideal) ⟨2, ![512, W]⟩ .f32 0x00000000#32 (ValueIdx.ix2 r k) = 0 from by pointwise, zero_add]
  refine Finset.sum_congr rfl fun d _ => ?_
  rw [show shapeCast ⟨2, ![128, W]⟩ kt hk (ValueIdx.ix2 d k) = kt (ix3 0 d k) from
    shapeCast_apply _ _ _ _ (by rw [Shape.rowMajor_val_three, Shape.rowMajor_val_two]; simp; rfl)]
  rfl

/-- What the bias tiles add to the score of key `k` of a tile's row `r`. -/
def biasAt (n : ℕ) (bd bo : Vec Ideal S1x1x256x256 .f32) (r : Fin 256) (k : ℕ) : EReal :=
  if k / 256 + 1 = n then bd (ix4 0 0 r ⟨k % 256, Nat.mod_lt _ (by decide)⟩)
  else if k / 256 + 2 = n then bo (ix4 0 0 r ⟨k % 256, Nat.mod_lt _ (by decide)⟩) else 0

/-- A biased score. -/
theorem rowsV_apply (n W o : ℕ) (hW : W = 256 * n) (ho : o + 256 ≤ 512) (hs) (hc) (s : FVec Ideal ⟨2, ![512, W]⟩ .f32) (bd bo : Vec Ideal S1x1x256x256 .f32)
    (r : Fin 256) (k : Fin W) :
    rowsV n W o hs hc s bd bo (ix2 r k) = (s (ix2 ⟨o + r.val, by omega⟩ k) : EReal) + biasAt n bd bo r k.val := by
  have hn : k.val / 256 < n := by omega
  unfold rowsV
  rw [concatenate_ofFn_apply (t := ⟨2, ![256, W]⟩) (s₁ := S256x256) 1 (fun j : Fin n => pieceV n W o hs s bd bo j) _ rfl 256 rfl (ix2 r k) ⟨k.val / 256, hn⟩ rfl
    (ix2 r ⟨k.val % 256, Nat.mod_lt _ (by decide)⟩) rfl (by intro b hb; fin_cases b <;> simp_all)]
  have hsl : extractStridedSlice S256x256 ![o, 256 * (k.val / 256)] s (hs ⟨k.val / 256, hn⟩) (ix2 r ⟨k.val % 256, Nat.mod_lt _ (by decide)⟩)
      = s (ix2 ⟨o + r.val, by omega⟩ k) := extractStridedSlice_apply _ _ _ _ _ (by
    intro a; fin_cases a
    · rfl
    · simp [ix2]; omega)
  have hb : ∀ b : Vec Ideal S1x1x256x256 .f32, shapeCast S256x256 b shapeCasts_S1x1x256x256_S256x256 (ix2 r ⟨k.val % 256, Nat.mod_lt _ (by decide)⟩)
      = b (ix4 0 0 r ⟨k.val % 256, Nat.mod_lt _ (by decide)⟩) := fun b => shapeCast_apply _ _ _ _ (by rw [Shape.rowMajor_val_four, Shape.rowMajor_val_two]; simp)
  unfold pieceV biasAt
  split_ifs
  · show _ + _ = _; rw [hsl, hb]
  · show _ + _ = _; rw [hsl, hb]
  · rw [hsl, add_zero]

/-- A row's unnormalised probabilities. -/
theorem probV_apply (W : ℕ) (hr) (hb) (x : FVec Ideal ⟨2, ![256, W]⟩ .f32) (r : Fin 256) (k : Fin W) :
    probV W hr hb x (ix2 r k) = Ideal.exp2 ((x (ix2 r k) : EReal) - Finset.univ.fold max (⊥ : EReal) fun k' : Fin W => (x (ix2 r k') : EReal)) := by
  have h : Ideal.ofBits .f32 4286578688#32 = (⊥ : EReal) := by simp [Ideal.ofBits, Ideal.ieee]
  unfold probV
  pointwise
  rw [h]
  rfl

/-- The weighted sum of the first half's rows. -/
theorem accV_apply_lo (W : ℕ) (hc) (hv) (p0 p1 : FVec Ideal ⟨2, ![256, W]⟩ .bf16) (va : Vec Ideal ⟨3, ![1, W, 256]⟩ .bf16) (r : Fin 256) (l : Fin 256) :
    accV W hc hv p0 p1 va (ix2 ⟨r.val, by omega⟩ l) = ∑ k : Fin W, (p0 (ix2 r k) : EReal) * (va (ix3 0 k l) : EReal) := by
  unfold accV
  refine (Ideal.matmul_plain_apply _ _ _ _ _ l).trans ?_
  rw [show constant (F := Ideal) S512x256 .f32 0x00000000#32 _ = 0 from by pointwise, zero_add]
  refine Finset.sum_congr rfl fun k _ => ?_
  rw [show shapeCast ⟨2, ![W, 256]⟩ va hv (ValueIdx.ix2 k l) = va (ix3 0 k l) from
    shapeCast_apply _ _ _ _ (by rw [Shape.rowMajor_val_three, Shape.rowMajor_val_two]; simp; rfl)]
  refine congrArg (· * _) ?_
  exact concatenate_pair_apply_left (t := ⟨2, ![512, W]⟩) (s₁ := ⟨2, ![256, W]⟩) 0 _ _ _ _ rfl (ix2 r k) (by intro b; fin_cases b <;> rfl)

/-- The weighted sum of the second half's rows. -/
theorem accV_apply_hi (W : ℕ) (hc) (hv) (p0 p1 : FVec Ideal ⟨2, ![256, W]⟩ .bf16) (va : Vec Ideal ⟨3, ![1, W, 256]⟩ .bf16) (r : Fin 256) (l : Fin 256) :
    accV W hc hv p0 p1 va (ix2 ⟨256 + r.val, by omega⟩ l) = ∑ k : Fin W, (p1 (ix2 r k) : EReal) * (va (ix3 0 k l) : EReal) := by
  unfold accV
  refine (Ideal.matmul_plain_apply _ _ _ _ _ l).trans ?_
  rw [show constant (F := Ideal) S512x256 .f32 0x00000000#32 _ = 0 from by pointwise, zero_add]
  refine Finset.sum_congr rfl fun k _ => ?_
  rw [show shapeCast ⟨2, ![W, 256]⟩ va hv (ValueIdx.ix2 k l) = va (ix3 0 k l) from
    shapeCast_apply _ _ _ _ (by rw [Shape.rowMajor_val_three, Shape.rowMajor_val_two]; simp; rfl)]
  refine congrArg (· * _) ?_
  exact concatenate_pair_apply_right (t := ⟨2, ![512, W]⟩) (s₁ := ⟨2, ![256, W]⟩) (s₂ := ⟨2, ![256, W]⟩) 0 _ _ _ _ rfl rfl (ix2 r k) (by intro b hb; fin_cases b <;> simp_all)
    (by show r.val + 256 = 256 + r.val; omega)

/-- The difference of the halves. -/
theorem diffV_apply (lam : FVec Ideal S1x1 .f32) (acc : FVec Ideal S512x256 .f32) (r : Fin 256) (l : Fin 128) :
    diffV lam acc (ix2 r l) =
      Ideal.div (acc (ix2 ⟨r.val, by omega⟩ ⟨l.val, by omega⟩)) (acc (ix2 ⟨r.val, by omega⟩ ⟨128, by omega⟩))
        - (lam (ix2 0 0) : EReal) * Ideal.div (acc (ix2 ⟨256 + r.val, by omega⟩ ⟨l.val, by omega⟩)) (acc (ix2 ⟨256 + r.val, by omega⟩ ⟨128, by omega⟩)) := by
  unfold diffV
  pointwise

/-- The stored rows. -/
theorem normV_apply (o : FVec Ideal S256x128 .f32) (sub : Vec Ideal S1x128 .f32) (r : Fin 256) (l : Fin 128) :
    normV o sub (ix3 0 r l) =
      (((o (ix2 r l) : EReal) * Ideal.rsqrt (Ideal.div (∑ l' : Fin 128, (o (ix2 r l') : EReal) * (o (ix2 r l') : EReal)) (Ideal.ofBits .f32 0x43000000#32)
        + Ideal.ofBits .f32 0x358637BD#32)) * (sub (ix2 0 l) : EReal)) * Ideal.ofBits .f32 0x3F077F5A#32 := by
  unfold normV
  pointwise

end Cert.Attn

end
-- ==== Proof.Attn.Tile.lean ====
/- One query tile of the attention kernel as a composition of Vocab.lean's operations, and the rows it stores as a
   formula of the blocks it reads. -/
module

public import proofs.«01_k».proof.Proof.Attn.VocabRead

@[expose] public section

set_option maxRecDepth 16384

noncomputable section

namespace Cert.Attn

open Cert.KernelIdeal Cert.KernelIdeal.Gen Idealize.ShloMosaic
open scoped BigOperators

/-- A tile's stored rows from the biased scores of its two halves. -/
def tileV (W : ℕ) (hr : (⟨2, ![256, W]⟩ : Shape).Reduces [1] S256) (hb : S256x1.Broadcasts ⟨2, ![256, W]⟩)
    (hc : Shape.Concatenates [⟨2, ![256, W]⟩, ⟨2, ![256, W]⟩] ⟨2, ![512, W]⟩ 0)
    (hv : (⟨3, ![1, W, 256]⟩ : Shape).ShapeCasts ⟨2, ![W, 256]⟩)
    (r0 r1 : FVec Ideal ⟨2, ![256, W]⟩ .f32) (va : Vec Ideal ⟨3, ![1, W, 256]⟩ .bf16) (lam : FVec Ideal S1x1 .f32)
    (sub : Vec Ideal S1x128 .f32) : FVec Ideal S1x256x128 .bf16 :=
  normV (diffV lam (accV W hc hv (probV W hr hb r0) (probV W hr hb r1) va)) sub

/-- The biased scores where there is one block of keys. -/
def rowsOneV (o : ℕ) (hs : S512x256.Slices ![o, 0] S256x256) (s : FVec Ideal S512x256 .f32) (bd : Vec Ideal S1x1x256x256 .f32) :
    FVec Ideal S256x256 .f32 :=
  addf (extractStridedSlice S256x256 ![o, 0] s hs) (shapeCast S256x256 bd shapeCasts_S1x1x256x256_S256x256)

/-- The largest of `x`'s values. -/
def top (W : ℕ) (x : Fin W → EReal) : EReal := Finset.univ.fold max (⊥ : EReal) x

/-- A softmax-weighted mean of `v`, as the kernel computes it. -/
def meanRow (W : ℕ) (x v : Fin W → EReal) : EReal :=
  Ideal.div (∑ k, Ideal.exp2 (x k - top W x) * v k) (∑ k, Ideal.exp2 (x k - top W x) * 1)

/-- The difference of the two halves' weighted means. -/
def diffRow (W : ℕ) (x0 x1 v : Fin W → EReal) (lam : EReal) : EReal := meanRow W x0 v - lam * meanRow W x1 v

/-- The normalisation of a row. -/
def normRow (o sub : Fin 128 → EReal) (l : Fin 128) : EReal :=
  ((o l * Ideal.rsqrt (Ideal.div (∑ l' : Fin 128, o l' * o l') (Ideal.ofBits .f32 0x43000000#32) + Ideal.ofBits .f32 0x358637BD#32)) * sub l)
    * Ideal.ofBits .f32 0x3F077F5A#32

/-- What a tile stores at row `r` and lane `l`. -/
theorem tileV_apply (W : ℕ) (hr) (hb) (hc) (hv) (r0 r1 : FVec Ideal ⟨2, ![256, W]⟩ .f32) (va : Vec Ideal ⟨3, ![1, W, 256]⟩ .bf16)
    (lam : FVec Ideal S1x1 .f32) (sub : Vec Ideal S1x128 .f32) (r : Fin 256) (l : Fin 128)
    (h1 : ∀ k, (va (ix3 0 k ⟨128, by omega⟩) : EReal) = 1) :
    tileV W hr hb hc hv r0 r1 va lam sub (ix3 0 r l) =
      normRow (fun l => diffRow W (fun k => r0 (ix2 r k)) (fun k => r1 (ix2 r k)) (fun k => va (ix3 0 k ⟨l.val, by omega⟩)) (lam (ix2 0 0)))
        (fun l => sub (ix2 0 l)) l := by
  unfold tileV
  rw [normV_apply]
  simp only [diffV_apply, accV_apply_lo, accV_apply_hi, probV_apply, h1]
  rfl

/-- A score of half `c`: the product over its 64 lanes, as the kernel computes it. -/
def halfScore (c : Fin 2) (q k : Fin 128 → EReal) : EReal :=
  ∑ d : Fin 128, (if c.val = 0 then (if d.val < 64 then q d * qscale else 0) else (if d.val < 64 then 0 else q d * qscale)) * k d

/-- The bias of key `k` in a tile of `n` blocks. -/
def biasRow (n : ℕ) (bd bo : Fin 256 → EReal) (k : ℕ) : EReal :=
  if k / 256 + 1 = n then bd ⟨k % 256, Nat.mod_lt _ (by decide)⟩
  else if k / 256 + 2 = n then bo ⟨k % 256, Nat.mod_lt _ (by decide)⟩ else 0

/-- Row `r`, lane `l` of tile `i` of head `a` from the blocks. -/
def blockRow (i : Fin 8) (a : Fin 2) (Q : S1x2048x256.Idx → EReal) (KT : S1x256x2048.Idx → EReal) (V : S1x2048x256.Idx → EReal)
    (D O : Fin 256 → Fin 256 → EReal) (lam : EReal) (sub : Fin 128 → EReal) (r : Fin 256) (l : Fin 128) : EReal :=
  normRow (fun l => diffRow (256 * (i.val + 1))
      (fun k => halfScore 0 (fun d => Q (ix3 0 ⟨256 * i.val + r.val, by omega⟩ ⟨128 * a.val + d.val, by omega⟩))
          (fun d => KT (ix3 0 ⟨128 * a.val + d.val, by omega⟩ ⟨k.val, by omega⟩)) + biasRow (i.val + 1) (D r) (O r) k.val)
      (fun k => halfScore 1 (fun d => Q (ix3 0 ⟨256 * i.val + r.val, by omega⟩ ⟨128 * a.val + d.val, by omega⟩))
          (fun d => KT (ix3 0 ⟨128 * a.val + d.val, by omega⟩ ⟨k.val, by omega⟩)) + biasRow (i.val + 1) (D r) (O r) k.val)
      (fun k => V (ix3 0 ⟨k.val, by omega⟩ ⟨128 * a.val + l.val, by omega⟩)) lam) sub l

/-- The loads of a tile hold the blocks' entries it needs. -/
structure Loads (i : Fin 8) (a : Fin 2) (W : ℕ) (hW : W = 256 * (i.val + 1)) (Q : S1x2048x256.Idx → EReal) (KT : S1x256x2048.Idx → EReal)
    (V : S1x2048x256.Idx → EReal) (D O : Fin 256 → Fin 256 → EReal) (lam : EReal) (sub : Fin 128 → EReal)
    (q : Vec Ideal S1x256x128 .bf16) (kt : Vec Ideal ⟨3, ![1, 128, W]⟩ .bf16) (va : Vec Ideal ⟨3, ![1, W, 256]⟩ .bf16)
    (bd0 bo0 bd1 bo1 : Vec Ideal S1x1x256x256 .f32) (lamV : FVec Ideal S1x1 .f32) (subV : Vec Ideal S1x128 .f32) : Prop where
  hq : ∀ r d, (q (ix3 0 r d) : EReal) = Q (ix3 0 ⟨256 * i.val + r.val, by omega⟩ ⟨128 * a.val + d.val, by omega⟩)
  hk : ∀ d k, (kt (ix3 0 d k) : EReal) = KT (ix3 0 ⟨128 * a.val + d.val, by omega⟩ ⟨k.val, by omega⟩)
  hv : ∀ k (l : Fin 128), (va (ix3 0 k ⟨l.val, by omega⟩) : EReal) = V (ix3 0 ⟨k.val, by omega⟩ ⟨128 * a.val + l.val, by omega⟩)
  h1 : ∀ k, (va (ix3 0 k ⟨128, by omega⟩) : EReal) = 1
  hd0 : ∀ r c, (bd0 (ix4 0 0 r c) : EReal) = D r c
  hd1 : ∀ r c, (bd1 (ix4 0 0 r c) : EReal) = D r c
  ho0 : ∀ r c, 1 ≤ i.val → (bo0 (ix4 0 0 r c) : EReal) = O r c
  ho1 : ∀ r c, 1 ≤ i.val → (bo1 (ix4 0 0 r c) : EReal) = O r c
  hl : (lamV (ix2 0 0) : EReal) = lam
  hs : ∀ l, (subV (ix2 0 l) : EReal) = sub l

/-- The bias a load holds, as the bias of the blocks. -/
theorem biasAt_eq (i : Fin 8) (D O : Fin 256 → Fin 256 → EReal) (bd bo : Vec Ideal S1x1x256x256 .f32)
    (hd : ∀ r c, (bd (ix4 0 0 r c) : EReal) = D r c) (ho : ∀ r c, 1 ≤ i.val → (bo (ix4 0 0 r c) : EReal) = O r c) (r : Fin 256) (k : ℕ) :
    biasAt (i.val + 1) bd bo r k = biasRow (i.val + 1) (D r) (O r) k := by
  unfold biasAt biasRow
  split_ifs with h h'
  · exact hd _ _
  · exact ho _ _ (by omega)
  · rfl

/-- A tile of two or more blocks of keys stores the rows of the formula. -/
theorem tile_many {i : Fin 8} {a : Fin 2} {W : ℕ} {hW : W = 256 * (i.val + 1)} {Q : S1x2048x256.Idx → EReal} {KT : S1x256x2048.Idx → EReal}
    {V : S1x2048x256.Idx → EReal} {D O : Fin 256 → Fin 256 → EReal} {lam : EReal} {sub : Fin 128 → EReal}
    {q : Vec Ideal S1x256x128 .bf16} {kt : Vec Ideal ⟨3, ![1, 128, W]⟩ .bf16} {va : Vec Ideal ⟨3, ![1, W, 256]⟩ .bf16}
    {bd0 bo0 bd1 bo1 : Vec Ideal S1x1x256x256 .f32} {lamV : FVec Ideal S1x1 .f32} {subV : Vec Ideal S1x128 .f32}
    (H : Loads i a W hW Q KT V D O lam sub q kt va bd0 bo0 bd1 bo1 lamV subV) (hk) (hr) (hb) (hc) (hv) (hs0) (hs1) (hcc)
    (r : Fin 256) (l : Fin 128) :
    tileV W hr hb hc hv (rowsV (i.val + 1) W 0 hs0 hcc (scoresV W hk (stackedQ q) kt) bd0 bo0)
      (rowsV (i.val + 1) W 256 hs1 hcc (scoresV W hk (stackedQ q) kt) bd1 bo1) va lamV subV (ix3 0 r l)
      = blockRow i a Q KT V D O lam sub r l := by
  subst hW
  rw [tileV_apply _ _ _ _ _ _ _ _ _ _ _ _ H.h1]
  unfold blockRow
  have e0 : ∀ k, (rowsV (i.val + 1) (256 * (i.val + 1)) 0 hs0 hcc (scoresV (256 * (i.val + 1)) hk (stackedQ q) kt) bd0 bo0 (ix2 r k) : EReal)
      = halfScore 0 (fun d => Q (ix3 0 ⟨256 * i.val + r.val, by omega⟩ ⟨128 * a.val + d.val, by omega⟩))
          (fun d => KT (ix3 0 ⟨128 * a.val + d.val, by omega⟩ ⟨k.val, by omega⟩)) + biasRow (i.val + 1) (D r) (O r) k.val := by
    intro k
    rw [rowsV_apply _ _ _ rfl (by omega), scoresV_apply, biasAt_eq i D O bd0 bo0 H.hd0 H.ho0]
    refine congrArg (· + _) (Finset.sum_congr rfl fun d _ => ?_)
    rw [H.hk, show (⟨0 + r.val, by omega⟩ : Fin 512) = ⟨r.val, by omega⟩ from Fin.ext (by simp), stackedQ_apply_lo, H.hq]
    rfl
  have e1 : ∀ k, (rowsV (i.val + 1) (256 * (i.val + 1)) 256 hs1 hcc (scoresV (256 * (i.val + 1)) hk (stackedQ q) kt) bd1 bo1 (ix2 r k) : EReal)
      = halfScore 1 (fun d => Q (ix3 0 ⟨256 * i.val + r.val, by omega⟩ ⟨128 * a.val + d.val, by omega⟩))
          (fun d => KT (ix3 0 ⟨128 * a.val + d.val, by omega⟩ ⟨k.val, by omega⟩)) + biasRow (i.val + 1) (D r) (O r) k.val := by
    intro k
    rw [rowsV_apply _ _ _ rfl (by omega), scoresV_apply, biasAt_eq i D O bd1 bo1 H.hd1 H.ho1]
    refine congrArg (· + _) (Finset.sum_congr rfl fun d _ => ?_)
    rw [H.hk, stackedQ_apply_hi, H.hq]
    rfl
  simp only [e0, e1, H.hl, H.hs, H.hv]

/-- A tile of one block of keys stores the rows of the formula. -/
theorem tile_one {a : Fin 2} {Q : S1x2048x256.Idx → EReal} {KT : S1x256x2048.Idx → EReal}
    {V : S1x2048x256.Idx → EReal} {D O : Fin 256 → Fin 256 → EReal} {lam : EReal} {sub : Fin 128 → EReal}
    {q : Vec Ideal S1x256x128 .bf16} {kt : Vec Ideal ⟨3, ![1, 128, 256]⟩ .bf16} {va : Vec Ideal ⟨3, ![1, 256, 256]⟩ .bf16}
    {bd0 bd1 : Vec Ideal S1x1x256x256 .f32} {lamV : FVec Ideal S1x1 .f32} {subV : Vec Ideal S1x128 .f32}
    (H : Loads 0 a 256 rfl Q KT V D O lam sub q kt va bd0 bd0 bd1 bd1 lamV subV) (hk) (hr) (hb) (hc) (hv) (hs0) (hs1)
    (r : Fin 256) (l : Fin 128) :
    tileV 256 hr hb hc hv (rowsOneV 0 hs0 (scoresV 256 hk (stackedQ q) kt) bd0)
      (rowsOneV 256 hs1 (scoresV 256 hk (stackedQ q) kt) bd1) va lamV subV (ix3 0 r l)
      = blockRow 0 a Q KT V D O lam sub r l := by
  rw [tileV_apply _ _ _ _ _ _ _ _ _ _ _ _ H.h1]
  unfold blockRow
  have hb : ∀ (bd : Vec Ideal S1x1x256x256 .f32) (hd : ∀ r c, (bd (ix4 0 0 r c) : EReal) = D r c) (k : Fin 256),
      (shapeCast S256x256 bd shapeCasts_S1x1x256x256_S256x256 (ix2 r k) : EReal) = biasRow 1 (D r) (O r) k.val := by
    intro bd hd k
    rw [show shapeCast S256x256 bd shapeCasts_S1x1x256x256_S256x256 (ix2 r k) = bd (ix4 0 0 r k) from
      shapeCast_apply _ _ _ _ (by rw [Shape.rowMajor_val_four, Shape.rowMajor_val_two]; simp), hd]
    unfold biasRow
    rw [if_pos (by omega)]
    exact congrArg _ (Fin.ext (Nat.mod_eq_of_lt k.isLt).symm)
  have hs : ∀ (o : ℕ) (ho : o + 256 ≤ 512) (h : S512x256.Slices ![o, 0] S256x256) (s : FVec Ideal S512x256 .f32) (k : Fin 256),
      extractStridedSlice S256x256 ![o, 0] s h (ix2 r k) = s (ix2 ⟨o + r.val, by omega⟩ k) := fun o ho h s k =>
    extractStridedSlice_apply _ _ _ _ _ (by
      intro b; fin_cases b
      · rfl
      · simp [ix2])
  have e0 : ∀ k, (rowsOneV 0 hs0 (scoresV 256 hk (stackedQ q) kt) bd0 (ix2 r k) : EReal)
      = halfScore 0 (fun d => Q (ix3 0 ⟨256 * 0 + r.val, by omega⟩ ⟨128 * a.val + d.val, by omega⟩))
          (fun d => KT (ix3 0 ⟨128 * a.val + d.val, by omega⟩ ⟨k.val, by omega⟩)) + biasRow 1 (D r) (O r) k.val := by
    intro k
    show (extractStridedSlice _ _ _ _ _ : EReal) + (shapeCast _ _ _ _ : EReal) = _
    rw [hs _ (by omega), hb bd0 H.hd0, scoresV_apply]
    refine congrArg (· + _) (Finset.sum_congr rfl fun d _ => ?_)
    rw [H.hk, show (⟨0 + r.val, by omega⟩ : Fin 512) = ⟨r.val, by omega⟩ from Fin.ext (by simp), stackedQ_apply_lo, H.hq]
    rfl
  have e1 : ∀ k, (rowsOneV 256 hs1 (scoresV 256 hk (stackedQ q) kt) bd1 (ix2 r k) : EReal)
      = halfScore 1 (fun d => Q (ix3 0 ⟨256 * 0 + r.val, by omega⟩ ⟨128 * a.val + d.val, by omega⟩))
          (fun d => KT (ix3 0 ⟨128 * a.val + d.val, by omega⟩ ⟨k.val, by omega⟩)) + biasRow 1 (D r) (O r) k.val := by
    intro k
    show (extractStridedSlice _ _ _ _ _ : EReal) + (shapeCast _ _ _ _ : EReal) = _
    rw [hs _ (by omega), hb bd1 H.hd1, scoresV_apply]
    refine congrArg (· + _) (Finset.sum_congr rfl fun d _ => ?_)
    rw [H.hk, stackedQ_apply_hi, H.hq]
    rfl
  simp only [e0, e1, H.hl, H.hs, H.hv]
  rfl

end Cert.Attn

end
-- ==== Proof.Attn.Cuts.lean ====
/- The printed computation of each query tile is the composition of Tile.lean at that tile's number of keys. -/
module

public import proofs.«01_k».proof.Proof.Attn.Tile

@[expose] public section

set_option maxRecDepth 16384

noncomputable section

namespace Cert.Attn

open Cert.KernelIdeal Cert.KernelIdeal.Gen Idealize.ShloMosaic

/-- The lane numbers of a tile. -/
abbrev laneIota : IVec S256x128 32 := iota .tc S256x128 32 [1] iota_S256x128_d1_w32

variable (q : Vec Ideal S1x256x128 .bf16) (bd bo : Vec Ideal S1x1x256x256 .f32) (lam : FVec Ideal S1x1 .f32) (sub : Vec Ideal S1x128 .f32)

/-- Tile 0 of the group's first head. -/
theorem tile0_0 (kt : Vec Ideal S1x128x256 .bf16) (va : Vec Ideal S1x256x256 .bf16) :
    k0_pay306 (k0_pay303 lam (k0_pay296 (k0_pay291 laneIota q kt) bd bd) va) (k0_pay304 sub) (k0_pay305 lam (k0_pay296 (k0_pay291 laneIota q kt) bd bd) va) =
      tileV 256 reduces_S256x256_S256 broadcasts_S256x1_S256x256 concatenates_S256x256_S256x256_S512x256_d0 shapeCasts_S1x256x256_S256x256
        (rowsOneV 0 slices_S512x256_o0_0_S256x256 (scoresV 256 shapeCasts_S1x128x256_S128x256 (stackedQ q) kt) bd)
        (rowsOneV 256 slices_S512x256_o256_0_S256x256 (scoresV 256 shapeCasts_S1x128x256_S128x256 (stackedQ q) kt) bd) va lam sub := rfl

/-- Tile 0 of the group's second head. -/
theorem tile0_1 (kt : Vec Ideal S1x128x256 .bf16) (va : Vec Ideal S1x256x256 .bf16) :
    k0_pay1 (k0_pay307 sub) (k0_pay308 lam (k0_pay302 (k0_pay299 laneIota (k0_pay297 q) k0_pay298 kt) bd bd) va) =
      tileV 256 reduces_S256x256_S256 broadcasts_S256x1_S256x256 concatenates_S256x256_S256x256_S512x256_d0 shapeCasts_S1x256x256_S256x256
        (rowsOneV 0 slices_S512x256_o0_0_S256x256 (scoresV 256 shapeCasts_S1x128x256_S128x256 (stackedQ q) kt) bd)
        (rowsOneV 256 slices_S512x256_o256_0_S256x256 (scoresV 256 shapeCasts_S1x128x256_S128x256 (stackedQ q) kt) bd) va lam sub := rfl

/-- Tile 1 of the group's first head. -/
theorem tile1_0 (kt : Vec Ideal S1x128x512 .bf16) (va : Vec Ideal S1x512x256 .bf16) :
    k0_pay183 (k0_pay182 lam (k0_pay173 (k0_pay171 q) (k0_pay172 kt) (constant S512x512 FTy.f32 0#32) bd bo bd bo) va) sub =
      tileV 512 reduces_S256x512_S256 broadcasts_S256x1_S256x512 concatenates_S256x512_S256x512_S512x512_d0 shapeCasts_S1x512x256_S512x256
        (rowsV 2 512 0 (by decide) (by decide) (scoresV 512 shapeCasts_S1x128x512_S128x512 (stackedQ q) kt) bd bo)
        (rowsV 2 512 256 (by decide) (by decide) (scoresV 512 shapeCasts_S1x128x512_S128x512 (stackedQ q) kt) bd bo) va lam sub := rfl

/-- Tile 1 of the group's second head. -/
theorem tile1_1 (kt : Vec Ideal S1x128x512 .bf16) (va : Vec Ideal S1x512x256 .bf16) :
    k0_pay188 lam (k0_pay180 (k0_pay177 laneIota (k0_pay174 q) k0_pay175 kt bd bo) (k0_pay178 laneIota (k0_pay174 q) k0_pay175 kt) (k0_pay179 laneIota (k0_pay174 q) k0_pay175 kt bd) bo) va sub =
      tileV 512 reduces_S256x512_S256 broadcasts_S256x1_S256x512 concatenates_S256x512_S256x512_S512x512_d0 shapeCasts_S1x512x256_S512x256
        (rowsV 2 512 0 (by decide) (by decide) (scoresV 512 shapeCasts_S1x128x512_S128x512 (stackedQ q) kt) bd bo)
        (rowsV 2 512 256 (by decide) (by decide) (scoresV 512 shapeCasts_S1x128x512_S128x512 (stackedQ q) kt) bd bo) va lam sub := rfl

/-- Tile 2 of the group's first head. -/
theorem tile2_0 (kt : Vec Ideal S1x128x768 .bf16) (va : Vec Ideal S1x768x256 .bf16) :
    k0_pay295 (k0_pay292 lam (k0_pay285 (k0_pay282 (k0_pay278 q) k0_pay279 (k0_pay280 laneIota q) (k0_pay281 laneIota) kt) (k0_pay284 (k0_pay278 q) k0_pay279 (k0_pay280 laneIota q) (k0_pay281 laneIota) kt) bd bo bd bo) va) (k0_pay293 sub) (k0_pay294 lam (k0_pay285 (k0_pay282 (k0_pay278 q) k0_pay279 (k0_pay280 laneIota q) (k0_pay281 laneIota) kt) (k0_pay284 (k0_pay278 q) k0_pay279 (k0_pay280 laneIota q) (k0_pay281 laneIota) kt) bd bo bd bo) va) =
      tileV 768 reduces_S256x768_S256 broadcasts_S256x1_S256x768 concatenates_S256x768_S256x768_S512x768_d0 shapeCasts_S1x768x256_S768x256
        (rowsV 3 768 0 (by decide) (by decide) (scoresV 768 shapeCasts_S1x128x768_S128x768 (stackedQ q) kt) bd bo)
        (rowsV 3 768 256 (by decide) (by decide) (scoresV 768 shapeCasts_S1x128x768_S128x768 (stackedQ q) kt) bd bo) va lam sub := rfl

/-- Tile 2 of the group's second head. -/
theorem tile2_1 (kt : Vec Ideal S1x128x768 .bf16) (va : Vec Ideal S1x768x256 .bf16) :
    k0_pay301 (k0_pay300 lam (k0_pay290 (k0_pay287 laneIota (k0_pay286 q) kt) bd bo bd bo) va sub) =
      tileV 768 reduces_S256x768_S256 broadcasts_S256x1_S256x768 concatenates_S256x768_S256x768_S512x768_d0 shapeCasts_S1x768x256_S768x256
        (rowsV 3 768 0 (by decide) (by decide) (scoresV 768 shapeCasts_S1x128x768_S128x768 (stackedQ q) kt) bd bo)
        (rowsV 3 768 256 (by decide) (by decide) (scoresV 768 shapeCasts_S1x128x768_S128x768 (stackedQ q) kt) bd bo) va lam sub := rfl

/-- Tile 3 of the group's first head. -/
theorem tile3_0 (kt : Vec Ideal S1x128x1024 .bf16) (va : Vec Ideal S1x1024x256 .bf16) :
    k0_pay283 lam (k0_pay270 (k0_pay262 laneIota q kt) (k0_pay268 (k0_pay262 laneIota q kt) bd bo) (k0_pay269 (k0_pay262 laneIota q kt) bd bo) bd bo) va sub =
      tileV 1024 reduces_S256x1024_S256 broadcasts_S256x1_S256x1024 concatenates_S256x1024_S256x1024_S512x1024_d0 shapeCasts_S1x1024x256_S1024x256
        (rowsV 4 1024 0 (by decide) (by decide) (scoresV 1024 shapeCasts_S1x128x1024_S128x1024 (stackedQ q) kt) bd bo)
        (rowsV 4 1024 256 (by decide) (by decide) (scoresV 1024 shapeCasts_S1x128x1024_S128x1024 (stackedQ q) kt) bd bo) va lam sub := rfl

/-- Tile 3 of the group's second head. -/
theorem tile3_1 (kt : Vec Ideal S1x128x1024 .bf16) (va : Vec Ideal S1x1024x256 .bf16) :
    k0_pay289 (k0_pay288 lam (k0_pay277 (k0_pay271 laneIota q kt) (k0_pay273 (k0_pay271 laneIota q kt)) (k0_pay274 (k0_pay271 laneIota q kt)) (k0_pay275 (k0_pay271 laneIota q kt)) (k0_pay276 (k0_pay271 laneIota q kt) bd) bo bd bo) va sub) =
      tileV 1024 reduces_S256x1024_S256 broadcasts_S256x1_S256x1024 concatenates_S256x1024_S256x1024_S512x1024_d0 shapeCasts_S1x1024x256_S1024x256
        (rowsV 4 1024 0 (by decide) (by decide) (scoresV 1024 shapeCasts_S1x128x1024_S128x1024 (stackedQ q) kt) bd bo)
        (rowsV 4 1024 256 (by decide) (by decide) (scoresV 1024 shapeCasts_S1x128x1024_S128x1024 (stackedQ q) kt) bd bo) va lam sub := rfl

/-- Tile 4 of the group's first head. -/
theorem tile4_0 (kt : Vec Ideal S1x128x1280 .bf16) (va : Vec Ideal S1x1280x256 .bf16) :
    k0_pay267 lam (k0_pay264 (k0_pay249 (k0_pay246 (k0_pay242 laneIota (k0_pay241 q) (Named.named κ "scale_log2e" 1043900987#32) kt) bd bo) (k0_pay247 (k0_pay242 laneIota (k0_pay241 q) (Named.named κ "scale_log2e" 1043900987#32) kt) bd bo) (k0_pay248 (k0_pay242 laneIota (k0_pay241 q) (Named.named κ "scale_log2e" 1043900987#32) kt) bd bo)) va) (k0_pay265 (k0_pay249 (k0_pay246 (k0_pay242 laneIota (k0_pay241 q) (Named.named κ "scale_log2e" 1043900987#32) kt) bd bo) (k0_pay247 (k0_pay242 laneIota (k0_pay241 q) (Named.named κ "scale_log2e" 1043900987#32) kt) bd bo) (k0_pay248 (k0_pay242 laneIota (k0_pay241 q) (Named.named κ "scale_log2e" 1043900987#32) kt) bd bo)) va) (k0_pay266 (k0_pay249 (k0_pay246 (k0_pay242 laneIota (k0_pay241 q) (Named.named κ "scale_log2e" 1043900987#32) kt) bd bo) (k0_pay247 (k0_pay242 laneIota (k0_pay241 q) (Named.named κ "scale_log2e" 1043900987#32) kt) bd bo) (k0_pay248 (k0_pay242 laneIota (k0_pay241 q) (Named.named κ "scale_log2e" 1043900987#32) kt) bd bo)) va) sub =
      tileV 1280 reduces_S256x1280_S256 broadcasts_S256x1_S256x1280 concatenates_S256x1280_S256x1280_S512x1280_d0 shapeCasts_S1x1280x256_S1280x256
        (rowsV 5 1280 0 (by decide) (by decide) (scoresV 1280 shapeCasts_S1x128x1280_S128x1280 (stackedQ q) kt) bd bo)
        (rowsV 5 1280 256 (by decide) (by decide) (scoresV 1280 shapeCasts_S1x128x1280_S128x1280 (stackedQ q) kt) bd bo) va lam sub := rfl

/-- Tile 4 of the group's second head. -/
theorem tile4_1 (kt : Vec Ideal S1x128x1280 .bf16) (va : Vec Ideal S1x1280x256 .bf16) :
    k0_pay272 lam (k0_pay261 (k0_pay255 (k0_pay250 laneIota q kt) bd bo) (k0_pay256 (k0_pay250 laneIota q kt)) (k0_pay257 (k0_pay250 laneIota q kt)) (k0_pay258 (k0_pay250 laneIota q kt)) (k0_pay259 (k0_pay250 laneIota q kt)) (k0_pay260 (k0_pay250 laneIota q kt)) bd bo) va sub =
      tileV 1280 reduces_S256x1280_S256 broadcasts_S256x1_S256x1280 concatenates_S256x1280_S256x1280_S512x1280_d0 shapeCasts_S1x1280x256_S1280x256
        (rowsV 5 1280 0 (by decide) (by decide) (scoresV 1280 shapeCasts_S1x128x1280_S128x1280 (stackedQ q) kt) bd bo)
        (rowsV 5 1280 256 (by decide) (by decide) (scoresV 1280 shapeCasts_S1x128x1280_S128x1280 (stackedQ q) kt) bd bo) va lam sub := rfl

/-- Tile 5 of the group's first head. -/
theorem tile5_0 (kt : Vec Ideal S1x128x1536 .bf16) (va : Vec Ideal S1x1536x256 .bf16) :
    k0_pay245 (k0_pay243 lam (k0_pay232 (k0_pay220 laneIota q kt) (k0_pay225 (k0_pay220 laneIota q kt)) (k0_pay226 (k0_pay220 laneIota q kt)) (k0_pay227 (k0_pay220 laneIota q kt)) (k0_pay228 (k0_pay220 laneIota q kt)) (k0_pay229 (k0_pay220 laneIota q kt)) (k0_pay230 (k0_pay220 laneIota q kt) bd) (k0_pay231 bo) bd bo) va sub) k0_pay244 =
      tileV 1536 reduces_S256x1536_S256 broadcasts_S256x1_S256x1536 concatenates_S256x1536_S256x1536_S512x1536_d0 shapeCasts_S1x1536x256_S1536x256
        (rowsV 6 1536 0 (by decide) (by decide) (scoresV 1536 shapeCasts_S1x128x1536_S128x1536 (stackedQ q) kt) bd bo)
        (rowsV 6 1536 256 (by decide) (by decide) (scoresV 1536 shapeCasts_S1x128x1536_S128x1536 (stackedQ q) kt) bd bo) va lam sub := rfl

/-- Tile 5 of the group's second head. -/
theorem tile5_1 (kt : Vec Ideal S1x128x1536 .bf16) (va : Vec Ideal S1x1536x256 .bf16) :
    k0_pay254 (k0_pay251 lam (k0_pay240 (k0_pay234 (k0_pay233 laneIota q) kt) (k0_pay236 (k0_pay233 laneIota q) kt) (k0_pay237 (k0_pay233 laneIota q) kt) (k0_pay238 (k0_pay233 laneIota q) kt) (k0_pay239 (k0_pay233 laneIota q) kt) bd bo bd bo) va) (k0_pay252 sub) (k0_pay253 lam (k0_pay240 (k0_pay234 (k0_pay233 laneIota q) kt) (k0_pay236 (k0_pay233 laneIota q) kt) (k0_pay237 (k0_pay233 laneIota q) kt) (k0_pay238 (k0_pay233 laneIota q) kt) (k0_pay239 (k0_pay233 laneIota q) kt) bd bo bd bo) va) =
      tileV 1536 reduces_S256x1536_S256 broadcasts_S256x1_S256x1536 concatenates_S256x1536_S256x1536_S512x1536_d0 shapeCasts_S1x1536x256_S1536x256
        (rowsV 6 1536 0 (by decide) (by decide) (scoresV 1536 shapeCasts_S1x128x1536_S128x1536 (stackedQ q) kt) bd bo)
        (rowsV 6 1536 256 (by decide) (by decide) (scoresV 1536 shapeCasts_S1x128x1536_S128x1536 (stackedQ q) kt) bd bo) va lam sub := rfl

/-- Tile 6 of the group's first head. -/
theorem tile6_0 (kt : Vec Ideal S1x128x1792 .bf16) (va : Vec Ideal S1x1792x256 .bf16) :
    k0_pay224 lam (k0_pay221 (k0_pay205 (k0_pay202 (k0_pay199 laneIota (k0_pay198 q) (FloatOps.ofBits FTy.bf16 0#16) kt) bd bo) (k0_pay203 (k0_pay199 laneIota (k0_pay198 q) (FloatOps.ofBits FTy.bf16 0#16) kt) bd bo) (k0_pay204 (k0_pay199 laneIota (k0_pay198 q) (FloatOps.ofBits FTy.bf16 0#16) kt) bd bo)) va) (k0_pay222 (k0_pay205 (k0_pay202 (k0_pay199 laneIota (k0_pay198 q) (FloatOps.ofBits FTy.bf16 0#16) kt) bd bo) (k0_pay203 (k0_pay199 laneIota (k0_pay198 q) (FloatOps.ofBits FTy.bf16 0#16) kt) bd bo) (k0_pay204 (k0_pay199 laneIota (k0_pay198 q) (FloatOps.ofBits FTy.bf16 0#16) kt) bd bo)) va) (k0_pay223 (k0_pay205 (k0_pay202 (k0_pay199 laneIota (k0_pay198 q) (FloatOps.ofBits FTy.bf16 0#16) kt) bd bo) (k0_pay203 (k0_pay199 laneIota (k0_pay198 q) (FloatOps.ofBits FTy.bf16 0#16) kt) bd bo) (k0_pay204 (k0_pay199 laneIota (k0_pay198 q) (FloatOps.ofBits FTy.bf16 0#16) kt) bd bo)) va) sub =
      tileV 1792 reduces_S256x1792_S256 broadcasts_S256x1_S256x1792 concatenates_S256x1792_S256x1792_S512x1792_d0 shapeCasts_S1x1792x256_S1792x256
        (rowsV 7 1792 0 (by decide) (by decide) (scoresV 1792 shapeCasts_S1x128x1792_S128x1792 (stackedQ q) kt) bd bo)
        (rowsV 7 1792 256 (by decide) (by decide) (scoresV 1792 shapeCasts_S1x128x1792_S128x1792 (stackedQ q) kt) bd bo) va lam sub := rfl

/-- Tile 6 of the group's second head. -/
theorem tile6_1 (kt : Vec Ideal S1x128x1792 .bf16) (va : Vec Ideal S1x1792x256 .bf16) :
    k0_pay235 lam (k0_pay219 (k0_pay211 (k0_pay206 laneIota q kt) bd bo) (k0_pay212 (k0_pay206 laneIota q kt)) (k0_pay213 (k0_pay206 laneIota q kt)) (k0_pay214 (k0_pay206 laneIota q kt)) (k0_pay215 (k0_pay206 laneIota q kt)) (k0_pay216 (k0_pay206 laneIota q kt)) (k0_pay217 (k0_pay206 laneIota q kt)) (k0_pay218 (k0_pay206 laneIota q kt)) bd bo) va sub =
      tileV 1792 reduces_S256x1792_S256 broadcasts_S256x1_S256x1792 concatenates_S256x1792_S256x1792_S512x1792_d0 shapeCasts_S1x1792x256_S1792x256
        (rowsV 7 1792 0 (by decide) (by decide) (scoresV 1792 shapeCasts_S1x128x1792_S128x1792 (stackedQ q) kt) bd bo)
        (rowsV 7 1792 256 (by decide) (by decide) (scoresV 1792 shapeCasts_S1x128x1792_S128x1792 (stackedQ q) kt) bd bo) va lam sub := rfl

/-- Tile 7 of the group's first head. -/
theorem tile7_0 (kt : Vec Ideal S1x128x2048 .bf16) (va : Vec Ideal S1x2048x256 .bf16) :
    k0_pay201 (k0_pay200 lam (k0_pay186 (k0_pay181 laneIota q kt) (k0_pay184 (k0_pay181 laneIota q kt) bd bo) (k0_pay185 (k0_pay181 laneIota q kt)) bd bo) va sub) =
      tileV 2048 reduces_S256x2048_S256 broadcasts_S256x1_S256x2048 concatenates_S256x2048_S256x2048_S512x2048_d0 shapeCasts_S1x2048x256_S2048x256
        (rowsV 8 2048 0 (by decide) (by decide) (scoresV 2048 shapeCasts_S1x128x2048_S128x2048 (stackedQ q) kt) bd bo)
        (rowsV 8 2048 256 (by decide) (by decide) (scoresV 2048 shapeCasts_S1x128x2048_S128x2048 (stackedQ q) kt) bd bo) va lam sub := rfl

/-- Tile 7 of the group's second head. -/
theorem tile7_1 (kt : Vec Ideal S1x128x2048 .bf16) (va : Vec Ideal S1x2048x256 .bf16) :
    k0_pay210 (k0_pay207 lam (k0_pay197 (k0_pay187 laneIota q kt) (k0_pay189 (k0_pay187 laneIota q kt)) (k0_pay190 (k0_pay187 laneIota q kt)) (k0_pay191 (k0_pay187 laneIota q kt)) (k0_pay192 (k0_pay187 laneIota q kt)) (k0_pay193 (k0_pay187 laneIota q kt)) (k0_pay194 (k0_pay187 laneIota q kt)) (k0_pay195 (k0_pay187 laneIota q kt)) (k0_pay196 (k0_pay187 laneIota q kt)) bd bo bd bo) va) (k0_pay208 sub) (k0_pay209 lam (k0_pay197 (k0_pay187 laneIota q kt) (k0_pay189 (k0_pay187 laneIota q kt)) (k0_pay190 (k0_pay187 laneIota q kt)) (k0_pay191 (k0_pay187 laneIota q kt)) (k0_pay192 (k0_pay187 laneIota q kt)) (k0_pay193 (k0_pay187 laneIota q kt)) (k0_pay194 (k0_pay187 laneIota q kt)) (k0_pay195 (k0_pay187 laneIota q kt)) (k0_pay196 (k0_pay187 laneIota q kt)) bd bo bd bo) va) =
      tileV 2048 reduces_S256x2048_S256 broadcasts_S256x1_S256x2048 concatenates_S256x2048_S256x2048_S512x2048_d0 shapeCasts_S1x2048x256_S2048x256
        (rowsV 8 2048 0 (by decide) (by decide) (scoresV 2048 shapeCasts_S1x128x2048_S128x2048 (stackedQ q) kt) bd bo)
        (rowsV 8 2048 256 (by decide) (by decide) (scoresV 2048 shapeCasts_S1x128x2048_S128x2048 (stackedQ q) kt) bd bo) va lam sub := rfl

end Cert.Attn

end
-- ==== Proof.Attn.Stores.lean ====
/- The blocks a grid point reads and the rows it stores. -/
module

public import proofs.«01_k».proof.Proof.Gen.KernelIdeal.Value
public import proofs.«01_k».proof.Proof.Attn.Cuts
public import Idealize.ShloMosaic.Lib.Pipeline.ValueKit
public import Idealize.ShloMosaic.Lib.Pipeline.ReadBack

@[expose] public section

set_option maxRecDepth 16384

noncomputable section

namespace Cert.Attn

open Cert.KernelIdeal Cert.KernelIdeal.Gen Idealize.ShloMosaic Idealize.ShloMosaic.TcCoe Idealize.SL.Sem
open scoped BigOperators

/-- The output block of a point of head group `h` from its input blocks and the bias tiles `B`. -/
def blockOut (Q : S1x2048x256.Idx → EReal) (KT : S1x256x2048.Idx → EReal) (V : S1x2048x256.Idx → EReal)
    (B : S8x2x256x256.Idx → EReal) (h : Fin 4) (lam : EReal) (sub : Fin 128 → EReal) (y : S1x2048x256.Idx) : EReal :=
  blockRow ⟨(y 1).val / 256, by have : (y 1).val < 2048 := (y 1).isLt; omega⟩ ⟨(y 2).val / 128, by have : (y 2).val < 256 := (y 2).isLt; omega⟩ Q KT V
    (fun r c => B (ix4 ⟨2 * h.val + (y 2).val / 128, by have : (y 2).val < 256 := (y 2).isLt; omega⟩ 0 r c))
    (fun r c => B (ix4 ⟨2 * h.val + (y 2).val / 128, by have : (y 2).val < 256 := (y 2).isLt; omega⟩ 1 r c)) lam sub
    ⟨(y 1).val % 256, Nat.mod_lt _ (by decide)⟩ ⟨(y 2).val % 128, Nat.mod_lt _ (by decide)⟩

/-- The output block at row `256 i + r` and lane `128 a + l`. -/
theorem blockOut_at {Q : S1x2048x256.Idx → EReal} {KT : S1x256x2048.Idx → EReal} {V : S1x2048x256.Idx → EReal}
    {B : S8x2x256x256.Idx → EReal} {h : Fin 4} {lam : EReal} {sub : Fin 128 → EReal} (y : S1x2048x256.Idx) (i : Fin 8) (a : Fin 2) (r : Fin 256) (l : Fin 128)
    (h1 : (y 1).val = 256 * i.val + r.val) (h2 : (y 2).val = 128 * a.val + l.val) :
    blockOut Q KT V B h lam sub y = blockRow i a Q KT V (fun r c => B (ix4 ⟨2 * h.val + a.val, by omega⟩ 0 r c))
      (fun r c => B (ix4 ⟨2 * h.val + a.val, by omega⟩ 1 r c)) lam sub r l := by
  have e1 : (y 1).val / 256 = i.val := by omega
  have e2 : (y 2).val / 128 = a.val := by omega
  have e3 : (y 1).val % 256 = r.val := by omega
  have e4 : (y 2).val % 128 = l.val := by omega
  unfold blockOut
  simp only [e1, e2, e3, e4]

/-- The pieces the body stores of the values and the column of ones. -/
abbrev vaugL (X : Vec Ideal S1x2048x256 .bf16) : List (View.Piece (Elt Ideal) S2x2048x256 .bf16) :=
  [⟨Rect.unit ![1, 0, 128] ![1, 2048, 128] inb_S2x2048x256_S1x2048x128_1_0_128, k0_pay169 (F := Ideal) k0_pay167 (FloatOps.ofBits .f32 0#32) k0_pay168⟩,
   ⟨Rect.unit ![1, 0, 0] ![1, 2048, 128] inb_S2x2048x256_S1x2048x128_1_0_0,
     k0_pay166 (F := Ideal) (View.ld X (Rect.unit ![0, 0, 128] ![1, 2048, 128] inb_S1x2048x256_S1x2048x128_0_0_128))⟩,
   ⟨Rect.unit ![0, 0, 128] ![1, 2048, 128] inb_S2x2048x256_S1x2048x128_0_0_128, k0_pay165 (F := Ideal)⟩,
   ⟨Rect.unit ![0, 0, 0] ![1, 2048, 128] inb_S2x2048x256_S1x2048x128_0_0_0,
     k0_pay164 (F := Ideal) (View.ld X (Rect.unit ![0, 0, 0] ![1, 2048, 128] inb_S1x2048x256_S1x2048x128_0_0_0))⟩]

/-- What those pieces hold: the values, and ones in lane 128. -/
def vaugG (X : S1x2048x256.Idx → EReal) (y : S2x2048x256.Idx) : EReal :=
  if h : (y 2).val < 128 then
    X (ix3 0 ⟨(y 1).val, (y 1).isLt⟩ ⟨128 * (y 0).val + (y 2).val, by have : (y 0).val < 2 := (y 0).isLt; omega⟩)
  else if (y 2).val = 128 then 1 else 0

/-- The column of ones, read. -/
theorem ones_apply (j : Fin 2048) (l : Fin 128) : (k0_pay165 (F := Ideal) (ix3 0 j l) : EReal) = if l.val = 0 then 1 else 0 := by
  unfold k0_pay165
  pointwise
  rw [select_of_iff _ _ (WordCmp.cmpi_eq_ofNat_eq_one_iff (w := 32) (a := l.val) (b := 0) (by omega) (by decide))]

/-- The pieces at an index. -/
theorem vaug_canon (X : Vec Ideal S1x2048x256 .bf16) (y : S2x2048x256.Idx) : View.canon (vaugL X) y = vaugG X y := by
  unfold vaugL
  canon_tiles x h
  all_goals obtain ⟨x0, j, l, rfl⟩ : ∃ x0 j l, x = ix3 (n0 := 1) (n1 := 2048) (n2 := 128) x0 j l := ⟨_, _, _, eq_ix3 x⟩
  all_goals obtain rfl : x0 = 0 := Subsingleton.elim _ _
  all_goals simp only [ix3_0, ix3_1, ix3_2] at h0 h1 h2
  all_goals unfold vaugG
  · refine (ones_apply j l).trans ?_
    rw [dif_neg (by omega)]
    split_ifs <;> first | rfl | omega
  · have h0' : (y 0).val = 1 := h0
    rw [dif_pos (by rw [h2]; exact l.isLt)]
    unfold k0_pay166
    pointwise
    exact congrArg X ((ix3_inj _ _ _ _ _ _).2 ⟨rfl, Fin.ext h1.symm, Fin.ext (by show 128 + l.val = 128 * (y 0).val + (y 2).val; omega)⟩)
  · refine (ones_apply j l).trans ?_
    rw [dif_neg (by omega)]
    split_ifs <;> first | rfl | omega
  · have h0' : (y 0).val = 0 := h0
    rw [dif_pos (by rw [h2]; exact l.isLt)]
    unfold k0_pay164
    pointwise
    exact congrArg X ((ix3_inj _ _ _ _ _ _).2 ⟨rfl, Fin.ext h1.symm, Fin.ext (by show l.val = 128 * (y 0).val + (y 2).val; omega)⟩)

/-- A load of the first `W` rows of head `a` from those pieces. -/
theorem vaug_read (X : Vec Ideal S1x2048x256 .bf16) (v : View sig .tc .vmem S2x2048x256 .bf16) (a : Fin 2) (W : ℕ) (hW : W ≤ 2048)
    (hb : ∀ b : Fin S2x2048x256.rank, (![a.val, 0, 0] : Fin 3 → ℕ) b + (![1, W, 256] : Fin 3 → ℕ) b ≤ S2x2048x256.size b) (k : Fin W) (l : Fin 256) :
    (v.readCov (vaugL X) (Rect.unit (s := S2x2048x256) ![a.val, 0, 0] ![1, W, 256] hb).toLoadRect (ix3 (n0 := 1) (n1 := W) (n2 := 256) 0 k l) : EReal)
      = vaugG X (ix3 ⟨a.val, a.isLt⟩ ⟨k.val, by omega⟩ l) := by
  rw [View.readCov_eq_canon_ld _ _ _ (View.cover_of_tiledL (vaugL X) ![1, 2048, 128] (by sl_kernel_rfl))]
  exact (View.ld_unit_apply_of _ _ _ _ _ (ix3 ⟨a.val, a.isLt⟩ ⟨k.val, by omega⟩ l) (by
    intro b; fin_cases b <;> simp [ix3])).trans (vaug_canon X _)

/-- The loads of tile `i` of head `a` are the blocks' entries. -/
theorem loads_mk (i : Fin 8) (a : Fin 2) (W : ℕ) (hW : W = 256 * (i.val + 1)) (X1 : Vec Ideal S1x2048x256 .bf16) (X2 : Vec Ideal S1x256x2048 .bf16)
    (X3 : Vec Ideal S1x2048x256 .bf16) (D O : Fin 256 → Fin 256 → EReal) (lamV : FVec Ideal S1x1 .f32) (subV : Vec Ideal S1x128 .f32)
    (bd bo : Vec Ideal S1x1x256x256 .f32) (v : View sig .tc .vmem S2x2048x256 .bf16)
    (h1 : ∀ b : Fin S1x2048x256.rank, (![0, 256 * i.val, 128 * a.val] : Fin 3 → ℕ) b + (![1, 256, 128] : Fin 3 → ℕ) b ≤ S1x2048x256.size b)
    (h2 : ∀ b : Fin S1x256x2048.rank, (![0, 128 * a.val, 0] : Fin 3 → ℕ) b + (![1, 128, W] : Fin 3 → ℕ) b ≤ S1x256x2048.size b)
    (h3 : ∀ b : Fin S2x2048x256.rank, (![a.val, 0, 0] : Fin 3 → ℕ) b + (![1, W, 256] : Fin 3 → ℕ) b ≤ S2x2048x256.size b)
    (hd : ∀ r c, (bd (ix4 0 0 r c) : EReal) = D r c) (ho : ∀ r c, 1 ≤ i.val → (bo (ix4 0 0 r c) : EReal) = O r c) :
    Loads i a W hW X1 X2 X3 D O (lamV (ix2 0 0)) (fun l => subV (ix2 0 l))
      (View.ld X1 (Rect.unit (s := S1x2048x256) ![0, 256 * i.val, 128 * a.val] ![1, 256, 128] h1))
      (View.ld X2 (Rect.unit (s := S1x256x2048) ![0, 128 * a.val, 0] ![1, 128, W] h2))
      (v.readCov (vaugL X3) (Rect.unit (s := S2x2048x256) ![a.val, 0, 0] ![1, W, 256] h3).toLoadRect) bd bo bd bo lamV subV where
  hq r d := View.ld_unit_apply_of _ _ _ _ _ _ (by intro b; fin_cases b <;> simp [ix3])
  hk d k := View.ld_unit_apply_of _ _ _ _ _ _ (by intro b; fin_cases b <;> simp [ix3])
  hv k l := by
    rw [vaug_read X3 v a W (by omega)]
    exact dif_pos l.isLt
  h1 k := by
    rw [vaug_read X3 v a W (by omega)]
    rfl
  hd0 := hd
  hd1 := hd
  ho0 := ho
  ho1 := ho
  hl := rfl
  hs _ := rfl

end Cert.Attn

end
-- ==== Proof.Attn.PointsB.lean ====
/- The output block every point but the first stores, from its input blocks and the bias tiles the first point left. -/
module

public import proofs.«01_k».proof.Proof.Attn.Stores
public import Idealize.ShloMosaic.Lib.Pipeline.ValueKit.Held

@[expose] public section

set_option maxRecDepth 16384

noncomputable section

namespace Cert.Attn

open Cert.KernelIdeal Cert.KernelIdeal.Gen Idealize.ShloMosaic Idealize.ShloMosaic.TcCoe Idealize.SL.Sem
open scoped BigOperators

/-- A load of one bias tile from the whole array of them. -/
theorem bias_ld (S : Vec Ideal S8x2x256x256 .f32) (off : Fin 4 → ℕ)
    (hin : ∀ b : Fin S8x2x256x256.rank, off b + (![1, 1, 256, 256] : Fin 4 → ℕ) b ≤ S8x2x256x256.size b)
    (h : Fin 8) (k : Fin 2) (e : off = ![h.val, k.val, 0, 0]) (r c : Fin 256) :
    (View.ld S (Rect.unit (s := S8x2x256x256) off ![1, 1, 256, 256] hin) (ix4 (n0 := 1) (n1 := 1) (n2 := 256) (n3 := 256) 0 0 r c) : EReal) = S (ix4 h k r c) := by
  subst e
  exact View.ld_unit_apply_of _ _ _ _ _ _ (by intro b; fin_cases b <;> simp [ix4])

/-- A tile of two or more key blocks stores its part of the output block. -/
theorem store_many (i : Fin 8) (a : Fin 2) (W : ℕ) (hW : W = 256 * (i.val + 1)) {X1 : Vec Ideal S1x2048x256 .bf16} {X2 : Vec Ideal S1x256x2048 .bf16}
    {X3 : Vec Ideal S1x2048x256 .bf16} {S : Vec Ideal S8x2x256x256 .f32} {h : Fin 4} {lamV : FVec Ideal S1x1 .f32} {subV : Vec Ideal S1x128 .f32}
    {bd bo : Vec Ideal S1x1x256x256 .f32} {v : View sig .tc .vmem S2x2048x256 .bf16} {h1} {h2} {h3} {hk} {hr} {hb} {hc} {hv} {hs0} {hs1} {hcc}
    (hd : ∀ r c, (bd (ix4 0 0 r c) : EReal) = S (ix4 ⟨2 * h.val + a.val, by omega⟩ 0 r c))
    (ho : ∀ r c, (bo (ix4 0 0 r c) : EReal) = S (ix4 ⟨2 * h.val + a.val, by omega⟩ 1 r c))
    {x : S1x256x128.Idx} {y : S1x2048x256.Idx} (e1 : (y 1).val = 256 * i.val + (x 1).val) (e2 : (y 2).val = 128 * a.val + (x 2).val) :
    tileV W hr hb hc hv
      (rowsV (i.val + 1) W 0 hs0 hcc (scoresV W hk (stackedQ (View.ld X1 (Rect.unit (s := S1x2048x256) ![0, 256 * i.val, 128 * a.val] ![1, 256, 128] h1)))
        (View.ld X2 (Rect.unit (s := S1x256x2048) ![0, 128 * a.val, 0] ![1, 128, W] h2))) bd bo)
      (rowsV (i.val + 1) W 256 hs1 hcc (scoresV W hk (stackedQ (View.ld X1 (Rect.unit (s := S1x2048x256) ![0, 256 * i.val, 128 * a.val] ![1, 256, 128] h1)))
        (View.ld X2 (Rect.unit (s := S1x256x2048) ![0, 128 * a.val, 0] ![1, 128, W] h2))) bd bo)
      (v.readCov (vaugL X3) (Rect.unit (s := S2x2048x256) ![a.val, 0, 0] ![1, W, 256] h3).toLoadRect) lamV subV x
      = blockOut X1 X2 X3 S h (lamV (ix2 0 0)) (fun l => subV (ix2 0 l)) y := by
  obtain ⟨x0, r, l, rfl⟩ : ∃ x0 r l, x = ix3 (n0 := 1) (n1 := 256) (n2 := 128) x0 r l := ⟨_, _, _, eq_ix3 x⟩
  obtain rfl : x0 = 0 := Subsingleton.elim _ _
  rw [blockOut_at y i a r l e1 e2]
  exact tile_many (loads_mk i a W hW X1 X2 X3 _ _ lamV subV bd bo v h1 h2 h3 hd fun r c _ => ho r c) hk hr hb hc hv hs0 hs1 hcc r l

/-- The tile of one key block stores its part of the output block. -/
theorem store_one (a : Fin 2) {X1 : Vec Ideal S1x2048x256 .bf16} {X2 : Vec Ideal S1x256x2048 .bf16}
    {X3 : Vec Ideal S1x2048x256 .bf16} {S : Vec Ideal S8x2x256x256 .f32} {h : Fin 4} {lamV : FVec Ideal S1x1 .f32} {subV : Vec Ideal S1x128 .f32}
    {bd : Vec Ideal S1x1x256x256 .f32} {v : View sig .tc .vmem S2x2048x256 .bf16} {h1} {h2} {h3} {hk} {hr} {hb} {hc} {hv} {hs0} {hs1}
    (hd : ∀ r c, (bd (ix4 0 0 r c) : EReal) = S (ix4 ⟨2 * h.val + a.val, by omega⟩ 0 r c))
    {x : S1x256x128.Idx} {y : S1x2048x256.Idx} (e1 : (y 1).val = 256 * 0 + (x 1).val) (e2 : (y 2).val = 128 * a.val + (x 2).val) :
    tileV 256 hr hb hc hv
      (rowsOneV 0 hs0 (scoresV 256 hk (stackedQ (View.ld X1 (Rect.unit (s := S1x2048x256) ![0, 256 * (0 : Fin 8).val, 128 * a.val] ![1, 256, 128] h1)))
        (View.ld X2 (Rect.unit (s := S1x256x2048) ![0, 128 * a.val, 0] ![1, 128, 256] h2))) bd)
      (rowsOneV 256 hs1 (scoresV 256 hk (stackedQ (View.ld X1 (Rect.unit (s := S1x2048x256) ![0, 256 * (0 : Fin 8).val, 128 * a.val] ![1, 256, 128] h1)))
        (View.ld X2 (Rect.unit (s := S1x256x2048) ![0, 128 * a.val, 0] ![1, 128, 256] h2))) bd)
      (v.readCov (vaugL X3) (Rect.unit (s := S2x2048x256) ![a.val, 0, 0] ![1, 256, 256] h3).toLoadRect) lamV subV x
      = blockOut X1 X2 X3 S h (lamV (ix2 0 0)) (fun l => subV (ix2 0 l)) y := by
  obtain ⟨x0, r, l, rfl⟩ : ∃ x0 r l, x = ix3 (n0 := 1) (n1 := 256) (n2 := 128) x0 r l := ⟨_, _, _, eq_ix3 x⟩
  obtain rfl : x0 = 0 := Subsingleton.elim _ _
  rw [blockOut_at y 0 a r l e1 e2]
  exact tile_one (loads_mk 0 a 256 rfl X1 X2 X3 _ (fun r c => S (ix4 ⟨2 * h.val + a.val, by omega⟩ 1 r c)) lamV subV bd bd v h1 h2 h3 hd fun r c hi => absurd hi (by decide)) hk hr hb hc hv hs0 hs1 r l

/-- The head group of a point. -/
def grp (t : Fin cfg0.N) : Fin 4 := ⟨t.val % 4, Nat.mod_lt _ (by decide)⟩

/-- Where a point's loads of the diagonal bias tiles begin. -/
theorem off_diag : ∀ (t : Fin cfg0.N), k0_off1 (grid0.coords t) 0#32 = ![2 * (t.val % 4) + 0, 0, 0, 0] ∧ k0_off1 (grid0.coords t) 1#32 = ![2 * (t.val % 4) + 1, 0, 0, 0] :=
  (by decide +kernel : ∀ t : Fin grid0.N, _)

/-- Where a point's loads of the other bias tiles begin. -/
theorem off_next : ∀ (t : Fin cfg0.N), k0_off2 (grid0.coords t) 0#32 = ![2 * (t.val % 4) + 0, 1, 0, 0] ∧ k0_off2 (grid0.coords t) 1#32 = ![2 * (t.val % 4) + 1, 1, 0, 0] :=
  (by decide +kernel : ∀ t : Fin grid0.N, _)

variable (m : (ℓ : Loc nD τ sig) → Buf (Elt Ideal) ℓ)

set_option maxHeartbeats 2000000 in
/-- The output block a point other than the first stores. -/
theorem outB (c : Dev nD) (t : Fin cfg0.N) (h0 : ¬t.val % 32 = 0) (S : Vec Ideal S8x2x256x256 .f32)
    (hS : (outsAt0 m c (t.val - 1) (Nat.lt_of_le_of_lt (Nat.sub_le _ _) t.isLt)).2 = S) :
    (outsAt0 m c t.val t.isLt).1 = blockOut (iblk m c 1 t) (iblk m c 2 t) (iblk m c 3 t) S (grp t) (k0_pay170 (iblk m c 4 t) (ix2 0 0))
      (fun l => iblk m c 5 t (ix2 0 l)) := by
  rw [outsAt0_B m c t h0]
  frame_out
  rw [hS]
  simp only [read_unread_whole]
  have d0 := fun hin r c => bias_ld S (k0_off1 (grid0.coords t) 0#32) hin ⟨2 * (grp t).val + 0, by omega⟩ 0 (off_diag t).1 r c
  have d1 := fun hin r c => bias_ld S (k0_off1 (grid0.coords t) 1#32) hin ⟨2 * (grp t).val + 1, by omega⟩ 0 (off_diag t).2 r c
  have n0 := fun hin r c => bias_ld S (k0_off2 (grid0.coords t) 0#32) hin ⟨2 * (grp t).val + 0, by omega⟩ 1 (off_next t).1 r c
  have n1 := fun hin r c => bias_ld S (k0_off2 (grid0.coords t) 1#32) hin ⟨2 * (grp t).val + 1, by omega⟩ 1 (off_next t).2 r c
  funext y
  canon_tiles x h
  · exact (congrFun (tile0_1 _ _ _ _ _ _) x).trans (store_one 1 (h := grp t) (d1 _) (h1.trans (Nat.zero_add _).symm) h2)
  · exact (congrFun (tile0_0 _ _ _ _ _ _) x).trans (store_one 0 (h := grp t) (d0 _) (h1.trans (Nat.zero_add _).symm) (h2.trans (Nat.zero_add _).symm))
  · exact (congrFun (tile2_1 _ _ _ _ _ _ _) x).trans (store_many 2 1 768 rfl (h := grp t) (d1 _) (n1 _) h1 h2)
  · exact (congrFun (tile2_0 _ _ _ _ _ _ _) x).trans (store_many 2 0 768 rfl (h := grp t) (d0 _) (n0 _) h1 (h2.trans (Nat.zero_add _).symm))
  · exact (congrFun (tile3_1 _ _ _ _ _ _ _) x).trans (store_many 3 1 1024 rfl (h := grp t) (d1 _) (n1 _) h1 h2)
  · exact (congrFun (tile3_0 _ _ _ _ _ _ _) x).trans (store_many 3 0 1024 rfl (h := grp t) (d0 _) (n0 _) h1 (h2.trans (Nat.zero_add _).symm))
  · exact (congrFun (tile4_1 _ _ _ _ _ _ _) x).trans (store_many 4 1 1280 rfl (h := grp t) (d1 _) (n1 _) h1 h2)
  · exact (congrFun (tile4_0 _ _ _ _ _ _ _) x).trans (store_many 4 0 1280 rfl (h := grp t) (d0 _) (n0 _) h1 (h2.trans (Nat.zero_add _).symm))
  · exact (congrFun (tile5_1 _ _ _ _ _ _ _) x).trans (store_many 5 1 1536 rfl (h := grp t) (d1 _) (n1 _) h1 h2)
  · exact (congrFun (tile5_0 _ _ _ _ _ _ _) x).trans (store_many 5 0 1536 rfl (h := grp t) (d0 _) (n0 _) h1 (h2.trans (Nat.zero_add _).symm))
  · exact (congrFun (tile6_1 _ _ _ _ _ _ _) x).trans (store_many 6 1 1792 rfl (h := grp t) (d1 _) (n1 _) h1 h2)
  · exact (congrFun (tile6_0 _ _ _ _ _ _ _) x).trans (store_many 6 0 1792 rfl (h := grp t) (d0 _) (n0 _) h1 (h2.trans (Nat.zero_add _).symm))
  · exact (congrFun (tile7_1 _ _ _ _ _ _ _) x).trans (store_many 7 1 2048 rfl (h := grp t) (d1 _) (n1 _) h1 h2)
  · exact (congrFun (tile7_0 _ _ _ _ _ _ _) x).trans (store_many 7 0 2048 rfl (h := grp t) (d0 _) (n0 _) h1 (h2.trans (Nat.zero_add _).symm))
  · exact (congrFun (tile1_1 _ _ _ _ _ _ _) x).trans (store_many 1 1 512 rfl (h := grp t) (d1 _) (n1 _) h1 h2)
  · exact (congrFun (tile1_0 _ _ _ _ _ _ _) x).trans (store_many 1 0 512 rfl (h := grp t) (d0 _) (n0 _) h1 (h2.trans (Nat.zero_add _).symm))

end Cert.Attn

end
-- ==== Proof.Attn.PointA.lean ====
/- What the first grid point leaves: its output block. -/
module

public import proofs.«01_k».proof.Proof.Attn.PointsB
public import Idealize.ShloMosaic.Lib.Pipeline.ValueKit.Held

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- Pieces that tile an array cover it. -/
theorem cover_of_canon {S : Vec Ideal S8x2x256x256 .f32} {L : List (View.Piece (Elt Ideal) S8x2x256x256 .f32)} (hL : View.canon L = S)
    (h : View.Piece.tiledL L ![1, 1, 256, 256] = true) : ∀ y, ∃ pc ∈ L, y ∈ pc.1.set := View.cover_of_tiledL L ![1, 1, 256, 256] h

set_option maxHeartbeats 2000000 in
/-- The output block the first point stores. -/
theorem outA (c : Dev nD) (t : Fin cfg0.N) (h0 : t.val % 32 = 0) (S : Vec Ideal S8x2x256x256 .f32) (hS : (outsAt0 m c t.val t.isLt).2 = S) :
    (outsAt0 m c t.val t.isLt).1 = blockOut (iblk m c 1 t) (iblk m c 2 t) (iblk m c 3 t) S (grp t) (k0_pay170 (iblk m c 4 t) (ix2 0 0))
      (fun l => iblk m c 5 t (ix2 0 l)) := by
  revert hS
  rw [outsAt0_A m c t h0]
  frame_out
  intro hS
  have hcov := cover_of_canon hS (by sl_kernel_rfl)
  have d0 := fun hin r c => bias_ld S (k0_off1 (grid0.coords t) 0#32) hin ⟨2 * (grp t).val + 0, by omega⟩ 0 (off_diag t).1 r c
  have d1 := fun hin r c => bias_ld S (k0_off1 (grid0.coords t) 1#32) hin ⟨2 * (grp t).val + 1, by omega⟩ 0 (off_diag t).2 r c
  have n0 := fun hin r c => bias_ld S (k0_off2 (grid0.coords t) 0#32) hin ⟨2 * (grp t).val + 0, by omega⟩ 1 (off_next t).1 r c
  have n1 := fun hin r c => bias_ld S (k0_off2 (grid0.coords t) 1#32) hin ⟨2 * (grp t).val + 1, by omega⟩ 1 (off_next t).2 r c
  simp only [fun v r => View.readCov_eq_canon_ld v _ r hcov, hS]
  clear hS hcov
  funext y
  canon_tiles x h
  · exact (congrFun (tile0_1 _ _ _ _ _ _) x).trans (store_one 1 (h := grp t) (d1 _) (h1.trans (Nat.zero_add _).symm) h2)
  · exact (congrFun (tile0_0 _ _ _ _ _ _) x).trans (store_one 0 (h := grp t) (d0 _) (h1.trans (Nat.zero_add _).symm) (h2.trans (Nat.zero_add _).symm))
  · exact (congrFun (tile2_1 _ _ _ _ _ _ _) x).trans (store_many 2 1 768 rfl (h := grp t) (d1 _) (n1 _) h1 h2)
  · exact (congrFun (tile2_0 _ _ _ _ _ _ _) x).trans (store_many 2 0 768 rfl (h := grp t) (d0 _) (n0 _) h1 (h2.trans (Nat.zero_add _).symm))
  · exact (congrFun (tile3_1 _ _ _ _ _ _ _) x).trans (store_many 3 1 1024 rfl (h := grp t) (d1 _) (n1 _) h1 h2)
  · exact (congrFun (tile3_0 _ _ _ _ _ _ _) x).trans (store_many 3 0 1024 rfl (h := grp t) (d0 _) (n0 _) h1 (h2.trans (Nat.zero_add _).symm))
  · exact (congrFun (tile4_1 _ _ _ _ _ _ _) x).trans (store_many 4 1 1280 rfl (h := grp t) (d1 _) (n1 _) h1 h2)
  · exact (congrFun (tile4_0 _ _ _ _ _ _ _) x).trans (store_many 4 0 1280 rfl (h := grp t) (d0 _) (n0 _) h1 (h2.trans (Nat.zero_add _).symm))
  · exact (congrFun (tile5_1 _ _ _ _ _ _ _) x).trans (store_many 5 1 1536 rfl (h := grp t) (d1 _) (n1 _) h1 h2)
  · exact (congrFun (tile5_0 _ _ _ _ _ _ _) x).trans (store_many 5 0 1536 rfl (h := grp t) (d0 _) (n0 _) h1 (h2.trans (Nat.zero_add _).symm))
  · exact (congrFun (tile6_1 _ _ _ _ _ _ _) x).trans (store_many 6 1 1792 rfl (h := grp t) (d1 _) (n1 _) h1 h2)
  · exact (congrFun (tile6_0 _ _ _ _ _ _ _) x).trans (store_many 6 0 1792 rfl (h := grp t) (d0 _) (n0 _) h1 (h2.trans (Nat.zero_add _).symm))
  · exact (congrFun (tile7_1 _ _ _ _ _ _ _) x).trans (store_many 7 1 2048 rfl (h := grp t) (d1 _) (n1 _) h1 h2)
  · exact (congrFun (tile7_0 _ _ _ _ _ _ _) x).trans (store_many 7 0 2048 rfl (h := grp t) (d0 _) (n0 _) h1 (h2.trans (Nat.zero_add _).symm))
  · exact (congrFun (tile1_1 _ _ _ _ _ _ _) x).trans (store_many 1 1 512 rfl (h := grp t) (d1 _) (n1 _) h1 h2)
  · exact (congrFun (tile1_0 _ _ _ _ _ _ _) x).trans (store_many 1 0 512 rfl (h := grp t) (d0 _) (n0 _) h1 (h2.trans (Nat.zero_add _).symm))

end Cert.Attn

end
-- ==== Proof.Attn.Bias.lean ====
/- The tiles of relative position bias the first grid point stores: their contents as a formula of the bias table. -/
module

public import proofs.«01_k».proof.Proof.Attn.Stores
public import Idealize.ShloMosaic.Lib.Affine

@[expose] public section

set_option maxRecDepth 16384

noncomputable section

namespace Cert.Attn

open Cert.KernelIdeal Cert.KernelIdeal.Gen Idealize.ShloMosaic Idealize.ShloMosaic.TcCoe Idealize.SL.Sem

/-- The distance at which each bucket begins. -/
def thr : ℕ → ℕ
  | 16 => 16 | 17 => 19 | 18 => 21 | 19 => 24 | 20 => 27 | 21 => 31 | 22 => 35 | 23 => 40 | 24 => 46 | 25 => 52 | 26 => 59
  | 27 => 67 | 28 => 77 | 29 => 87 | 30 => 99 | 31 => 113 | n => n

/-- Of the buckets up to `b`, the last that begins at or below distance `n`. -/
def bk : ℕ → ℤ → ℕ
  | 0, _ => 0
  | b + 1, n => if (thr (b + 1) : ℤ) ≤ n then b + 1 else bk b n

/-- It is one of them. -/
theorem bk_le : ∀ (b : ℕ) (n : ℤ), bk b n ≤ b
  | 0, _ => le_refl _
  | b + 1, n => by
    unfold bk
    split_ifs
    · exact le_refl _
    · exact (bk_le b n).trans (Nat.le_succ b)

/-- The distances of a tile: row minus column plus an offset. -/
def relV (off : BitVec 32) : IVec S256x256 32 :=
  addi (subi (iota .tc S256x256 32 [0] iota_S256x256_d0_w32) (iota .tc S256x256 32 [1] iota_S256x256_d1_w32)) (broadcast S256x256 off)

/-- The words chosen by the buckets up to `b`. -/
def chainV (off : BitVec 32) (w : Fin 32 → EReal) : ℕ → FVec Ideal S256x256 .f32
  | 0 => broadcast S256x256 (w 0)
  | b + 1 => select (cmpi .sge (relV off) (broadcast S256x256 (BitVec.ofNat 32 (thr (b + 1))))) (broadcast S256x256 (w (Fin.ofNat 32 (b + 1)))) (chainV off w b)

/-- A tile's words less the last bucket's, in units of the binary logarithm. -/
def shiftV (off : BitVec 32) (w : Fin 32 → EReal) : FVec Ideal S256x256 .f32 :=
  mulf (subf (chainV off w 31) (broadcast S256x256 (w 31))) (broadcast S256x256 (Named.named (F := Ideal) κ "log2e" 0x3FB8AA3B#32))

/-- The tile of a block of keys against itself, masked above the diagonal. -/
def diagV (w : Fin 32 → EReal) : FVec Ideal S1x1x256x256 .f32 :=
  shapeCast S1x1x256x256 (select (cmpi .sge (relV 0#32) (broadcast S256x256 0#32)) (shiftV 0#32 w)
    (broadcast S256x256 (Named.named (F := Ideal) κ "mask" 0xF149F2CA#32))) shapeCasts_S256x256_S1x1x256x256

/-- The tile of a block of queries against the block of keys before it. -/
def nextV (w : Fin 32 → EReal) : FVec Ideal S1x1x256x256 .f32 :=
  shapeCast S1x1x256x256 (shiftV 256#32 w) shapeCasts_S256x256_S1x1x256x256

/-- The base-two logarithm of `e`. -/
abbrev log2e : EReal := (((Real.log 2)⁻¹ : ℝ) : EReal)

/-- A comparison of a distance with a literal. -/
theorem rel_sge (off t : ℕ) (ho : off ≤ 256) (ht : t ≤ 256) (r c : Fin 256) :
    cmpi .sge (relV (BitVec.ofNat 32 off)) (broadcast S256x256 (BitVec.ofNat 32 t)) (ix2 r c) = 1#1 ↔ (t : ℤ) ≤ (r.val : ℤ) - c.val + off := by
  have h : Affine.IsInt (relV (BitVec.ofNat 32 off) (ix2 r c)) ((r.val : ℤ) - c.val + off) := by
    unfold relV
    pointwise
    exact Affine.addi (Affine.subi (e := (r.val : ℤ) - c.val) (Affine.ofNat (e := r.val) _ ⟨rfl, by omega⟩) (Affine.ofNat (e := c.val) _ ⟨rfl, by omega⟩) ⟨rfl, by omega, by omega⟩)
      (Affine.ofNat (e := off) _ ⟨rfl, by omega⟩) ⟨rfl, by omega, by omega⟩
  have h' : (relV (BitVec.ofNat 32 off) (ix2 r c)).toInt = (r.val : ℤ) - c.val + off := by
    unfold Affine.IsInt at h; exact h
  have ht' : (BitVec.ofNat 32 t).toInt = (t : ℤ) := WordCmp.toInt_ofNat_of_lt (by omega)
  show IntOp.cmpi .sge (relV (BitVec.ofNat 32 off) (ix2 r c)) (BitVec.ofNat 32 t) = 1#1 ↔ _
  rw [← h', ← ht']
  show BitVec.ofBool (BitVec.sle _ _) = 1#1 ↔ _
  rw [BitVec.sle_eq_decide]
  by_cases hle : (BitVec.ofNat 32 t).toInt ≤ (relV (BitVec.ofNat 32 off) (ix2 r c)).toInt <;> simp [hle]

/-- The thresholds are small. -/
theorem thr_le (b : ℕ) (hb : b ≤ 31) : thr b ≤ 256 := by
  interval_cases b <;> decide

/-- The word chosen at a place. -/
theorem chainV_apply (off : ℕ) (ho : off ≤ 256) (w : Fin 32 → EReal) (r c : Fin 256) : ∀ b : ℕ, b ≤ 31 →
    (chainV (BitVec.ofNat 32 off) w b (ix2 r c) : EReal) = w (Fin.ofNat 32 (bk b ((r.val : ℤ) - c.val + off)))
  | 0, _ => rfl
  | b + 1, hb => by
    show Scalar.select (cmpi .sge (relV (BitVec.ofNat 32 off)) (broadcast S256x256 (BitVec.ofNat 32 (thr (b + 1)))) (ix2 r c))
      (w (Fin.ofNat 32 (b + 1))) (chainV (BitVec.ofNat 32 off) w b (ix2 r c)) = _
    rw [select_of_iff _ _ (rel_sge off (thr (b + 1)) ho (thr_le _ hb) r c), chainV_apply off ho w r c b (by omega)]
    show _ = w (Fin.ofNat 32 (if (thr (b + 1) : ℤ) ≤ (r.val : ℤ) - c.val + off then b + 1 else bk b ((r.val : ℤ) - c.val + off)))
    split_ifs <;> rfl

/-- The shifted word at a place. -/
theorem shiftV_apply (off : ℕ) (ho : off ≤ 256) (w : Fin 32 → EReal) (r c : Fin 256) :
    (shiftV (BitVec.ofNat 32 off) w (ix2 r c) : EReal) = (w (Fin.ofNat 32 (bk 31 ((r.val : ℤ) - c.val + off))) - w 31) * log2e := by
  unfold shiftV
  pointwise
  rw [IdealRules.named_const.ideal_named_scalar (κ := κ) (name := "log2e") (φ := .f32) 0x3FB8AA3B#32 log2e rfl, chainV_apply off ho w r c 31 (le_refl _)]

/-- The bias tiles of the table `w`. -/
def biasG (w : Fin 32 → Fin 8 → EReal) (y : S8x2x256x256.Idx) : EReal :=
  if (y 1).val = 0 ∧ (y 2).val < (y 3).val then ⊥
  else (w (Fin.ofNat 32 (bk 31 (((y 2).val : ℤ) - (y 3).val + 256 * (y 1).val))) (y 0) - w 31 (y 0)) * log2e

/-- The table's word for bucket `b` and head `h`, as the body loads it. -/
def word (X : Vec Ideal S32x8 .f32) (h : Fin 8) (b : Fin 32) : EReal :=
  View.ld X (Rect.unit (s := S32x8) ![b.val, h.val] ![1, 1] (by intro a; fin_cases a <;> simp <;> omega)) (Shape.Idx.first (by show 0 < (⟨2, ![1, 1]⟩ : Shape).numel; decide))

/-- It is the table's entry. -/
theorem word_apply (X : Vec Ideal S32x8 .f32) (h : Fin 8) (b : Fin 32) : word X h b = X (ix2 b h) :=
  View.ld_unit_apply_of _ _ _ _ _ _ (by intro a; fin_cases a <;> simp [ix2, Shape.Idx.first])

/-- The stored diagonal tile of head `h`. -/
theorem diagV_at (X : Vec Ideal S32x8 .f32) (h : Fin 8) (x : S1x1x256x256.Idx) (y : S8x2x256x256.Idx) (e0 : (y 0).val = h.val + (x 0).val)
    (e1 : (y 1).val = (x 1).val) (e2 : (y 2).val = (x 2).val) (e3 : (y 3).val = (x 3).val) :
    (diagV (word X h) x : EReal) = biasG (fun b h => X (ix2 b h)) y := by
  obtain ⟨x0, x1, r, c, rfl⟩ : ∃ x0 x1 r c, x = ix4 (n0 := 1) (n1 := 1) (n2 := 256) (n3 := 256) x0 x1 r c := ⟨_, _, _, _, eq_ix4 x⟩
  obtain rfl : x0 = 0 := Subsingleton.elim _ _
  obtain rfl : x1 = 0 := Subsingleton.elim _ _
  have e0' : y 0 = h := Fin.ext e0
  have e1' : (y 1).val = 0 := e1
  have e2' : (y 2).val = r.val := e2
  have e3' : (y 3).val = c.val := e3
  unfold diagV
  rw [show ∀ v : FVec Ideal S256x256 .f32, shapeCast S1x1x256x256 v shapeCasts_S256x256_S1x1x256x256 (ix4 0 0 r c) = v (ix2 r c) from fun v =>
    shapeCast_apply _ _ _ _ (by rw [Shape.rowMajor_val_four, Shape.rowMajor_val_two]; simp)]
  show Scalar.select (cmpi .sge (relV (BitVec.ofNat 32 0)) (broadcast S256x256 (BitVec.ofNat 32 0)) (ix2 r c)) (shiftV (BitVec.ofNat 32 0) (word X h) (ix2 r c)) (Named.named (F := Ideal) κ "mask" 0xF149F2CA#32) = _
  rw [select_of_iff _ _ (rel_sge 0 0 (by omega) (by omega) r c), shiftV_apply 0 (by omega),
    IdealRules.named_const.ideal_named_scalar (κ := κ) (name := "mask") (φ := .f32) 0xF149F2CA#32 ⊥ rfl]
  unfold biasG
  simp only [word_apply, e0', e1', e2', e3', true_and]
  split_ifs
  · omega
  · rfl
  · rfl
  · omega

/-- The stored other tile of head `h`. -/
theorem nextV_at (X : Vec Ideal S32x8 .f32) (h : Fin 8) (x : S1x1x256x256.Idx) (y : S8x2x256x256.Idx) (e0 : (y 0).val = h.val + (x 0).val)
    (e1 : (y 1).val = 1 + (x 1).val) (e2 : (y 2).val = (x 2).val) (e3 : (y 3).val = (x 3).val) :
    (nextV (word X h) x : EReal) = biasG (fun b h => X (ix2 b h)) y := by
  obtain ⟨x0, x1, r, c, rfl⟩ : ∃ x0 x1 r c, x = ix4 (n0 := 1) (n1 := 1) (n2 := 256) (n3 := 256) x0 x1 r c := ⟨_, _, _, _, eq_ix4 x⟩
  obtain rfl : x0 = 0 := Subsingleton.elim _ _
  obtain rfl : x1 = 0 := Subsingleton.elim _ _
  have e0' : y 0 = h := Fin.ext e0
  have e1' : (y 1).val = 1 := e1
  have e2' : (y 2).val = r.val := e2
  have e3' : (y 3).val = c.val := e3
  unfold nextV
  rw [show ∀ v : FVec Ideal S256x256 .f32, shapeCast S1x1x256x256 v shapeCasts_S256x256_S1x1x256x256 (ix4 0 0 r c) = v (ix2 r c) from fun v =>
    shapeCast_apply _ _ _ _ (by rw [Shape.rowMajor_val_four, Shape.rowMajor_val_two]; simp)]
  rw [show (256#32 : BitVec 32) = BitVec.ofNat 32 256 from rfl, shiftV_apply 256 (by omega)]
  unfold biasG
  simp only [word_apply, e0', e1', e2', e3']
  rw [if_neg (by omega)]
  rfl

end Cert.Attn

end
-- ==== Proof.Attn.BiasTiles.lean ====
/- The bias tiles the first grid point leaves. -/
module

public import proofs.«01_k».proof.Proof.Attn.Bias
public import Idealize.ShloMosaic.Lib.Pipeline.ValueKit.Held

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

set_option maxHeartbeats 2000000 in
/-- The bias tiles the first point leaves. -/
theorem biasA (c : Dev nD) (t : Fin cfg0.N) (h0 : t.val % 32 = 0) :
    (outsAt0 m c t.val t.isLt).2 = biasG (fun b h => iblk m c 0 t (ix2 b h)) := by
  rw [outsAt0_A m c t h0]
  frame_out
  funext y
  canon_tiles x h
  · exact nextV_at (iblk m c 0 t) 7 x y h0 h1 h2 h3
  · exact diagV_at (iblk m c 0 t) 7 x y h0 h1 h2 h3
  · exact nextV_at (iblk m c 0 t) 6 x y h0 h1 h2 h3
  · exact diagV_at (iblk m c 0 t) 6 x y h0 h1 h2 h3
  · exact nextV_at (iblk m c 0 t) 5 x y h0 h1 h2 h3
  · exact diagV_at (iblk m c 0 t) 5 x y h0 h1 h2 h3
  · exact nextV_at (iblk m c 0 t) 4 x y h0 h1 h2 h3
  · exact diagV_at (iblk m c 0 t) 4 x y h0 h1 h2 h3
  · exact nextV_at (iblk m c 0 t) 3 x y h0 h1 h2 h3
  · exact diagV_at (iblk m c 0 t) 3 x y h0 h1 h2 h3
  · exact nextV_at (iblk m c 0 t) 2 x y h0 h1 h2 h3
  · exact diagV_at (iblk m c 0 t) 2 x y h0 h1 h2 h3
  · exact nextV_at (iblk m c 0 t) 1 x y h0 h1 h2 h3
  · exact diagV_at (iblk m c 0 t) 1 x y h0 h1 h2 h3
  · exact nextV_at (iblk m c 0 t) 0 x y (h0.trans (Nat.zero_add _).symm) h1 h2 h3
  · exact diagV_at (iblk m c 0 t) 0 x y (h0.trans (Nat.zero_add _).symm) h1 h2 h3

end Cert.Attn

end
-- ==== Proof.Attn.AllPoints.lean ====
/- Every grid point's output block: the bias scratch, written at the first point, is the same at all of them. -/
module

public import proofs.«01_k».proof.Proof.Attn.PointA
public import proofs.«01_k».proof.Proof.Attn.BiasTiles

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- The bias tiles, from the bucket table as the first point reads it. -/
def bias0 (c : Dev nD) : Vec Ideal S8x2x256x256 .f32 := biasG (fun b h => iblk m c 0 ⟨0, by decide⟩ (ix2 b h))

/-- The scratch after every point holds the bias tiles. -/
theorem scratch_all (c : Dev nD) : ∀ (n : ℕ) (hn : n < cfg0.N), (outsAt0 m c n hn).2 = bias0 m c
  | 0, hn => biasA m c ⟨0, hn⟩ rfl
  | n + 1, hn => by
    have hN : n + 1 < 32 := lt_of_lt_of_eq hn N_0
    have h0 : ¬(n + 1) % 32 = 0 := by omega
    rw [outsAt0_B m c ⟨n + 1, hn⟩ h0]
    exact scratch_all c n (Nat.lt_of_succ_lt hn)

/-- The output block of every point. -/
theorem out_all (c : Dev nD) (t : Fin cfg0.N) :
    (outsAt0 m c t.val t.isLt).1 = blockOut (iblk m c 1 t) (iblk m c 2 t) (iblk m c 3 t) (bias0 m c) (grp t) (k0_pay170 (iblk m c 4 t) (ix2 0 0))
      (fun l => iblk m c 5 t (ix2 0 l)) := by
  by_cases h0 : t.val % 32 = 0
  · exact outA m c t h0 _ (scratch_all m c t.val t.isLt)
  · exact outB m c t h0 _ (scratch_all m c (t.val - 1) _)

end Cert.Attn

end
-- ==== Proof.Attn.Bucket.lean ====
/- The reference's logarithmic bucket of a distance is the kernel's table of thresholds. -/
module

public import proofs.«01_k».proof.Proof.Attn.Bias

@[expose] public section

noncomputable section

namespace Cert.Attn

open Idealize.ShloMosaic

/-- The rounded constant the reference divides by, near `log 8`. -/
def cLog : ℝ := 8721810 / 4194304

/-- The reference's fractional bucket of a distance, above the sixteenth. -/
def frac (n : ℕ) : ℝ := Real.log ((n : ℝ) / 16) / cLog * 16

theorem cLog_pos : 0 < cLog := by unfold cLog; norm_num

/-- The natural logarithm of two to four places. -/
theorem log_two_bounds : 69314 / 100000 ≤ Real.log 2 ∧ Real.log 2 ≤ 69315 / 100000 := by
  constructor
  · rw [Real.le_log_iff_exp_le (by norm_num)]
    refine (Real.exp_bound' (x := 69314 / 100000) (by norm_num) (by norm_num) (n := 10) (by norm_num)).trans ?_
    norm_num [Finset.sum_range_succ, Nat.factorial]
  · rw [Real.log_le_iff_le_exp (by norm_num)]
    refine le_trans ?_ (Real.sum_le_exp_of_nonneg (x := 69315 / 100000) (by norm_num) 10)
    norm_num [Finset.sum_range_succ, Nat.factorial]

theorem cLog_near : |cLog - 3 * Real.log 2| < 1 / 25000 := by
  obtain ⟨h1, h2⟩ := log_two_bounds
  unfold cLog
  rw [abs_lt]
  constructor <;> linarith

/-- The thresholds separate the powers of eight. -/
theorem thr_powers : ∀ j : Fin 15, 1001 * 2 ^ (64 + 3 * (j.val + 1)) ≤ 1000 * (thr (17 + j.val)) ^ 16
    ∧ 1000 * (thr (17 + j.val) - 1) ^ 16 ≤ 999 * 2 ^ (64 + 3 * (j.val + 1)) ∧ 17 ≤ thr (17 + j.val) := by decide +kernel

/-- Sixteen times the logarithm of a sixteenth of a number. -/
theorem log16 (x : ℝ) (hx : 0 < x) : Real.log (x / 16) * 16 = Real.log (x ^ 16) - 64 * Real.log 2 := by
  rw [Real.log_div hx.ne' (by norm_num), Real.log_pow, show (16 : ℝ) = 2 ^ 4 by norm_num, Real.log_pow]
  push_cast
  ring

/-- A bucket is reached exactly from its threshold. -/
theorem frac_ge (j : Fin 15) (n : ℕ) (hn : 16 ≤ n) : ((j.val + 1 : ℕ) : ℝ) ≤ frac n ↔ thr (17 + j.val) ≤ n := by
  obtain ⟨hu, hl, ht⟩ := thr_powers j
  have hc := cLog_pos
  have hnear := abs_lt.1 cLog_near
  have hj : (j.val : ℝ) ≤ 14 := by exact_mod_cast (by omega : j.val ≤ 14)
  have hj0 : (0 : ℝ) ≤ j.val := Nat.cast_nonneg _
  have e : frac n = (Real.log ((n : ℝ) ^ 16) - 64 * Real.log 2) / cLog := by
    rw [← log16 _ (by exact_mod_cast (by omega : 0 < n))]
    unfold frac
    ring
  have hp : Real.log ((2 : ℝ) ^ (64 + 3 * (j.val + 1))) = (64 + 3 * ((j.val : ℝ) + 1)) * Real.log 2 := by
    rw [Real.log_pow]; push_cast; ring
  have hP : (0 : ℝ) < 2 ^ (64 + 3 * (j.val + 1)) := by positivity
  rw [e, le_div_iff₀ hc]
  push_cast
  constructor
  · intro h
    by_contra hlt
    have h1 : n ≤ thr (17 + j.val) - 1 := by omega
    have h2 : (1000 : ℝ) * (n : ℝ) ^ 16 ≤ 999 * 2 ^ (64 + 3 * (j.val + 1)) := by
      exact_mod_cast (Nat.mul_le_mul_left 1000 (Nat.pow_le_pow_left h1 16)).trans hl
    have h3 : (n : ℝ) ^ 16 ≤ 999 / 1000 * 2 ^ (64 + 3 * (j.val + 1)) := by linarith
    have h4 := Real.log_le_log (by have : (0 : ℝ) < n := by exact_mod_cast (by omega : 0 < n)
                                   positivity) h3
    rw [Real.log_mul (by norm_num) hP.ne', hp] at h4
    have h5 : Real.log (999 / 1000) ≤ 999 / 1000 - 1 := Real.log_le_sub_one_of_pos (by norm_num)
    nlinarith
  · intro h
    have h2 : (1001 : ℝ) * 2 ^ (64 + 3 * (j.val + 1)) ≤ 1000 * (n : ℝ) ^ 16 := by
      exact_mod_cast hu.trans (Nat.mul_le_mul_left 1000 (Nat.pow_le_pow_left h 16))
    have h3 : 1001 / 1000 * 2 ^ (64 + 3 * (j.val + 1)) ≤ (n : ℝ) ^ 16 := by linarith
    have h4 := Real.log_le_log (by positivity) h3
    rw [Real.log_mul (by norm_num) hP.ne', hp] at h4
    have h5 : 1 - (1001 / 1000 : ℝ)⁻¹ ≤ Real.log (1001 / 1000) := Real.one_sub_inv_le_log_of_pos (by norm_num)
    norm_num at h5
    nlinarith

/-- The buckets from sixteen up. -/
theorem bk_frac (n : ℕ) (hn : 16 ≤ n) (h0 : 0 ≤ ⌊frac n⌋) : ∀ b : ℕ, b ≤ 15 → (bk (16 + b) n : ℤ) = min (16 + ⌊frac n⌋) (16 + b)
  | 0, _ => by
    have : bk (16 + 0) n = 16 := by
      show (if (thr (15 + 1) : ℤ) ≤ n then 15 + 1 else bk 15 n) = 16
      rw [if_pos (by show ((16 : ℕ) : ℤ) ≤ n; omega)]
    rw [this]
    push_cast
    omega
  | b + 1, hb => by
    have ih := bk_frac n hn h0 b (by omega)
    show ((if (thr (16 + b + 1) : ℤ) ≤ n then 16 + b + 1 else bk (16 + b) n : ℕ) : ℤ) = _
    have key := frac_ge ⟨b, by omega⟩ n hn
    rw [show thr (16 + b + 1) = thr (17 + b) by congr 1; omega]
    have k2 : ((b + 1 : ℕ) : ℤ) ≤ ⌊frac n⌋ ↔ thr (17 + b) ≤ n := by
      rw [Int.le_floor]; exact_mod_cast key
    by_cases ht : thr (17 + b) ≤ n
    · rw [if_pos (by exact_mod_cast ht)]
      have := k2.2 ht
      push_cast at this ⊢
      omega
    · rw [if_neg (by exact_mod_cast ht), ih]
      have : ¬ ((b + 1 : ℕ) : ℤ) ≤ ⌊frac n⌋ := fun h => ht (k2.1 h)
      push_cast at this ⊢
      omega

/-- Below sixteen each distance is its own bucket. -/
theorem bk_small : ∀ n : Fin 16, bk 31 (n.val : ℤ) = n.val := by decide +kernel

/-- From the last threshold on the bucket is the last. -/
theorem bk_far (n : ℤ) (h : 113 ≤ n) : bk 31 n = 31 := by
  show (if (thr (30 + 1) : ℤ) ≤ n then 30 + 1 else bk 30 n) = 31
  rw [if_pos (by show ((113 : ℕ) : ℤ) ≤ n; omega)]

theorem frac_nonneg (n : ℕ) (hn : 16 ≤ n) : 0 ≤ frac n := by
  unfold frac
  have : (16 : ℝ) ≤ n := by exact_mod_cast hn
  have h1 : 0 ≤ Real.log ((n : ℝ) / 16) := Real.log_nonneg (by rw [le_div_iff₀ (by norm_num)]; linarith)
  have := cLog_pos
  positivity

theorem frac_le (n : ℕ) (h1 : 1 ≤ n) (hn : n < 2048) : frac n < 2048 := by
  unfold frac
  have h0 : (0 : ℝ) < n := by exact_mod_cast h1
  have h : (n : ℝ) < 2048 := by exact_mod_cast hn
  have h2 : Real.log ((n : ℝ) / 16) ≤ (n : ℝ) / 16 - 1 := Real.log_le_sub_one_of_pos (by positivity)
  have : Real.log ((n : ℝ) / 16) / cLog < 128 := by
    rw [div_lt_iff₀ cLog_pos]
    unfold cLog
    linarith
  linarith

/-- The quotient the reference takes the logarithm of, as the reference's operations print it. -/
def fracW (x : BitVec 32) : EReal :=
  Ideal.div (Ideal.log (Ideal.div ((x.toInt : ℝ) : EReal) (Ideal.ofBits .f32 0x41800000#32))) (Ideal.ofBits .f32 0x40051592#32) * Ideal.ofBits .f32 0x41800000#32

theorem sixteen : Ideal.ofBits .f32 0x41800000#32 = ((16 : ℝ) : EReal) := by
  simp [Ideal.ofBits, Ideal.ieee]
  exact_mod_cast (by norm_num : (8388608 : ℝ) * (2 ^ 19)⁻¹ = 16)

theorem cWord : Ideal.ofBits .f32 0x40051592#32 = ((cLog : ℝ) : EReal) := by
  unfold cLog
  simp [Ideal.ofBits, Ideal.ieee]
  exact_mod_cast (by norm_num : (8721810 : ℝ) * (2 ^ 22)⁻¹ = 8721810 / 4194304)

/-- … is the fractional bucket. -/
theorem fracW_eq (x : BitVec 32) (n : ℕ) (h : x.toInt = n) (h1 : 1 ≤ n) : fracW x = ((frac n : ℝ) : EReal) := by
  unfold fracW frac
  have h0 : (0 : ℝ) < n := by exact_mod_cast h1
  have hd : ∀ a b : ℝ, b ≠ 0 → Ideal.div (a : EReal) (b : EReal) = ((a / b : ℝ) : EReal) := fun a b hb => by
    unfold Ideal.div
    rw [if_neg (by exact_mod_cast hb), div_eq_mul_inv, EReal.coe_mul, EReal.coe_inv]
  rw [sixteen, cWord, h, hd _ _ (by norm_num)]
  have hl : Ideal.log (((((n : ℤ) : ℝ) / 16 : ℝ)) : EReal) = ((Real.log ((n : ℝ) / 16) : ℝ) : EReal) := by
    have : ¬ ((n : ℝ) / 16 ≤ 0) := not_le.2 (by positivity)
    simp [this]
  rw [hl, hd _ _ cLog_pos.ne', ← EReal.coe_mul]

/-- The word the reference converts it to. -/
theorem word_frac (x : BitVec 32) (n : ℕ) (h : x.toInt = n) (h1 : 16 ≤ n) (hn : n < 2048) :
    Affine.IsInt (Ideal.fptosi 32 (fracW x)) ⌊frac n⌋ := by
  rw [fracW_eq x n h (by omega)]
  have h0 := frac_nonneg n h1
  have hl := frac_le n (by omega) hn
  have f0 : 0 ≤ ⌊frac n⌋ := Int.floor_nonneg.2 h0
  have f1 : ⌊frac n⌋ < 2048 := Int.floor_lt.2 (by exact_mod_cast hl)
  unfold Affine.IsInt
  show (BitVec.ofInt 32 (max (-(2 ^ (32 - 1) : ℕ) : ℤ) (min ((2 ^ (32 - 1) : ℕ) - 1 : ℤ) (if 0 ≤ frac n then ⌊frac n⌋ else ⌈frac n⌉)))).toInt = _
  rw [if_pos h0, BitVec.toInt_ofInt]
  norm_num
  rw [min_eq_right (by omega), max_eq_right (by omega)]
  rw [Int.bmod_def]
  split <;> omega

/-- A selection of words, its condition true. -/
theorem sel_pos (c : BitVec 1) (a b : BitVec 32) (h : c = 1#1) : Scalar.select c a b = a := if_pos h

/-- A selection of words, its condition false. -/
theorem sel_neg (c : BitVec 1) (a b : BitVec 32) (h : ¬c = 1#1) : Scalar.select c a b = b := if_neg h

/-- The reference's bucket word at a distance, the negative-index fix included. -/
theorem bucket_word (rel : BitVec 32) (n : ℕ) (hr : Affine.IsInt rel n) (hn : n < 2048) :
    let m := IntOp.maxsi rel 0#32
    let w := Scalar.select (IntOp.cmpi .slt m 16#32) m (IntOp.minsi (IntOp.addi 16#32 (Ideal.fptosi 32 (fracW (IntOp.maxsi m 1#32)))) 31#32)
    (Scalar.select (IntOp.cmpi .slt w 0#32) (IntOp.addi w 32#32) w).toInt = (bk 31 n : ℤ) := by
  intro m w
  have hm : Affine.IsInt m n := Affine.maxsi (ea := n) (eb := 0) hr (Affine.ofNat 0 ⟨rfl, by omega⟩) (by omega)
  have hm1 : n ≠ 0 → Affine.IsInt (IntOp.maxsi m 1#32) n := fun h => Affine.maxsi (ea := n) (eb := 1) hm (Affine.ofNat 1 ⟨rfl, by omega⟩) (by omega)
  have tm : m.toInt = n := by unfold Affine.IsInt at hm; exact hm
  have hw : w.toInt = (bk 31 n : ℤ) := by
    by_cases h : n < 16
    · have hc : IntOp.cmpi .slt m 16#32 = 1#1 := by
        rw [WordCmp.cmpi_slt_eq, WordCmp.ofBool_decide_eq_one_iff, tm]
        show (n : ℤ) < 16
        omega
      show BitVec.toInt (Scalar.select _ _ _) = _
      rw [sel_pos _ _ _ hc, tm]
      exact_mod_cast (bk_small ⟨n, h⟩).symm
    · have hc : ¬ IntOp.cmpi .slt m 16#32 = 1#1 := by
        rw [WordCmp.cmpi_slt_eq, WordCmp.ofBool_decide_eq_one_iff, tm]
        show ¬ (n : ℤ) < 16
        omega
      show BitVec.toInt (Scalar.select _ _ _) = _
      rw [sel_neg _ _ _ hc]
      have t1 : (IntOp.maxsi m 1#32).toInt = n := by have := hm1 (by omega); unfold Affine.IsInt at this; exact this
      have f0 : 0 ≤ ⌊frac n⌋ := Int.floor_nonneg.2 (frac_nonneg n (by omega))
      have f1 : ⌊frac n⌋ < 2048 := Int.floor_lt.2 (by exact_mod_cast frac_le n (by omega) hn)
      have := Affine.minsi (e := min (16 + ⌊frac n⌋) 31) (Affine.addi (e := 16 + ⌊frac n⌋) (Affine.ofNat (e := 16) 16 ⟨rfl, by omega⟩) (word_frac _ n t1 (by omega) hn) ⟨rfl, by omega, by omega⟩)
        (Affine.ofNat (e := 31) 31 ⟨rfl, by omega⟩) rfl
      unfold Affine.IsInt at this
      refine this.trans ?_
      rw [show 31 = 16 + 15 from rfl, bk_frac n (by omega) f0 15 le_rfl]
      rfl
  have hc : ¬ IntOp.cmpi .slt w 0#32 = 1#1 := by
    rw [WordCmp.cmpi_slt_eq, WordCmp.ofBool_decide_eq_one_iff, hw]
    show ¬ (bk 31 n : ℤ) < 0
    omega
  rw [sel_neg _ _ _ hc, hw]

end Cert.Attn

end
-- ==== Proof.Attn.RefScore.lean ====
/- The reference's masked scores and softmax weights, read at an index. -/
module

public import proofs.«01_k».proof.Proof.Gen.ReferenceIdeal.Read
public import proofs.«01_k».proof.Proof.Attn.Bucket

@[expose] public section

set_option maxRecDepth 16384

noncomputable section

namespace Cert.Attn

open Cert.ReferenceIdeal Cert.ReferenceIdeal.Gen Cert.ReferenceIdeal.Read Idealize.ShloMosaic Idealize.ShloMosaic.TcCoe Idealize.SL.Sem

variable (x0 : (⟨S32x8, .f32⟩ : BufTy).Contents (Elt Ideal)) (x1 : (⟨S8x2048x1024, .bf16⟩ : BufTy).Contents (Elt Ideal))
  (x2 : (⟨S8x1024x2048, .bf16⟩ : BufTy).Contents (Elt Ideal))

/-- The gather reads the table's row named by its index word, clamped. -/
theorem gather_row (x : S32x8.Idx → EReal) (idx : IVec S2048x2048x1 32) (p k : Fin 2048) (h : Fin 8) :
    Host.gather gather_S32x8_S2048x2048x1_S2048x2048x8_2_0_n_n_0_2_18 x idx (ix3 p k h)
      = x (ix2 ⟨min (idx (ix3 p k 0)).toInt.toNat 31, by omega⟩ h) := by
  unfold Host.gather
  congr 1
  funext a
  refine Fin.ext ?_
  show (gather_S32x8_S2048x2048x1_S2048x2048x8_2_0_n_n_0_2_18).start (ix3 p k h) idx a
      + (gather_S32x8_S2048x2048x1_S2048x2048x8_2_0_n_n_0_2_18).batchCoord (ix3 p k h) a
      + (gather_S32x8_S2048x2048x1_S2048x2048x8_2_0_n_n_0_2_18).offCoord (ix3 p k h) a = _
  rw [GatherDims.batchCoord_eq_zero _ _ _ (show a ∉ ([] : List (Fin 2)) from List.not_mem_nil)]
  match a with
  | ⟨0, _⟩ =>
    have hs : (gather_S32x8_S2048x2048x1_S2048x2048x8_2_0_n_n_0_2_18).siIdx (ix3 p k h) ⟨List.idxOf (0 : Fin 2) [0], by decide⟩ = ix3 p k 0 := by
      funext b; refine Fin.ext ?_
      match b with
      | ⟨0, _⟩ => rfl
      | ⟨1, _⟩ => rfl
      | ⟨2, _⟩ => rfl
    have h1 : (gather_S32x8_S2048x2048x1_S2048x2048x8_2_0_n_n_0_2_18).start (ix3 p k h) idx 0 = min (idx (ix3 p k 0)).toInt.toNat 31 := by
      unfold GatherDims.start
      rw [dif_pos (show (0 : Fin 2) ∈ (gather_S32x8_S2048x2048x1_S2048x2048x8_2_0_n_n_0_2_18).startIndexMap from List.mem_singleton.mpr rfl)]
      rw [← hs]
      rfl
    have h2 : (gather_S32x8_S2048x2048x1_S2048x2048x8_2_0_n_n_0_2_18).offCoord (ix3 p k h) 0 = 0 :=
      GatherDims.offCoord_eq_zero _ _ _ (fun h => ((GatherDims.mem_sKept _ _).mp h).1 (List.mem_singleton.mpr rfl))
    show _ + 0 + _ = _
    exact (congrArg₂ (fun a b => a + 0 + b) h1 h2).trans rfl
  | ⟨1, _⟩ =>
    have h1 : (gather_S32x8_S2048x2048x1_S2048x2048x8_2_0_n_n_0_2_18).start (ix3 p k h) idx 1 = 0 := by
      unfold GatherDims.start
      rw [dif_neg (show ¬ (1 : Fin 2) ∈ (gather_S32x8_S2048x2048x1_S2048x2048x8_2_0_n_n_0_2_18).startIndexMap from show ¬ (1 : Fin 2) ∈ ([0] : List (Fin 2)) by decide)]
    have h2 : (gather_S32x8_S2048x2048x1_S2048x2048x8_2_0_n_n_0_2_18).offCoord (ix3 p k h) 1 = h.val := by
      unfold GatherDims.offCoord
      rw [dif_pos (show (1 : Fin 2) ∈ _ by decide)]
      rfl
    exact (congrArg₂ (fun a b => a + 0 + b) h1 h2).trans (by simp [ix2])

/-- The reference's distance word. -/
theorem rel_at (p k : Fin 2048) : val_main_v22 (F := Ideal) (ix2 p k) = IntOp.subi (BitVec.ofNat 32 p.val) (BitVec.ofNat 32 k.val) := by
  rw [val_main_v22_apply, val_main_v20_apply, val_main_v18_apply, val_main_v17_apply, val_main_v21_apply, val_main_v19_apply, val_main_v17_apply]
  rfl

/-- The reference's bucket word below the diagonal. -/
theorem bucket_at (p k : Fin 2048) (hk : k.val ≤ p.val) : (val_main_v48 (F := Ideal) (ix3 p k 0)).toInt = (bk 31 ((p.val : ℤ) - k.val) : ℤ) := by
  have hr : Affine.IsInt (val_main_v22 (F := Ideal) (ix2 p k)) ((p.val - k.val : ℕ) : ℤ) := by
    rw [rel_at]
    exact Affine.subi (Affine.ofNat (e := p.val) _ ⟨rfl, by omega⟩) (Affine.ofNat (e := k.val) _ ⟨rfl, by omega⟩) ⟨by omega, by omega, by omega⟩
  have := bucket_word _ _ hr (by omega)
  rw [show ((p.val : ℤ) - k.val) = ((p.val - k.val : ℕ) : ℤ) by omega, ← this]
  have e : idx_main_v48 (ix3 p k 0) = ix2 p k := funext fun a => Fin.ext (by match a with | ⟨0, _⟩ => rfl | ⟨1, _⟩ => rfl)
  have e24 : val_main_v24 (F := Ideal) (ix2 p k) = IntOp.maxsi (val_main_v22 (F := Ideal) (ix2 p k)) 0#32 := by
    rw [val_main_v24_apply, val_main_v23_apply, val_main_c_apply]
  have e26 : val_main_v26 (F := Ideal) (ix2 p k) = IntOp.cmpi .slt (val_main_v24 (F := Ideal) (ix2 p k)) 16#32 := by
    rw [val_main_v26_apply, val_main_v25_apply, val_main_c_3_apply]
  have e28 : val_main_v28 (F := Ideal) (ix2 p k) = IntOp.maxsi (val_main_v24 (F := Ideal) (ix2 p k)) 1#32 := by
    rw [val_main_v28_apply, val_main_v27_apply, val_main_c_4_apply]
  have e36 : val_main_v36 (F := Ideal) (ix2 p k) = fracW (val_main_v28 (F := Ideal) (ix2 p k)) := by
    rw [val_main_v36_apply, val_main_v35_apply, val_main_cst_7_apply, val_main_v34_apply, val_main_v33_apply, val_main_cst_6_apply, val_main_v32_apply,
      val_main_v31_apply, val_main_v30_apply, val_main_cst_5_apply, val_main_v29_apply]
    rfl
  have e41 : val_main_v41 (F := Ideal) (ix2 p k) = IntOp.minsi (IntOp.addi 16#32 (Ideal.fptosi 32 (fracW (val_main_v28 (F := Ideal) (ix2 p k))))) 31#32 := by
    rw [val_main_v41_apply, val_main_v40_apply, val_main_c_9_apply, val_main_v39_apply, val_main_v38_apply, val_main_c_8_apply, val_main_v37_apply, e36]
    rfl
  rw [val_main_v48_apply, e, val_main_v47_apply, val_main_v44_apply, val_main_v43_apply, val_main_c_10_apply, val_main_v46_apply, val_main_v45_apply, val_main_c_11_apply,
    val_main_v42_apply, e41, e26, e28, e24]

/-- A clamped index word that is a bucket. -/
theorem clamp_word (w : BitVec 32) (B : ℕ) (hb : B ≤ 31) (hw : w.toInt = (B : ℤ)) (hlt : min w.toInt.toNat 31 < 32) :
    (⟨min w.toInt.toNat 31, hlt⟩ : Fin 32) = Fin.ofNat 32 B := Fin.ext (by
  show min w.toInt.toNat 31 = B % 32
  omega)

/-- The gathered bias, its bucket known. -/
theorem bias_of (p k : Fin 2048) (h : Fin 8) (B : ℕ) (hb : B ≤ 31) (hw : (val_main_v48 (F := Ideal) (ix3 p k 0)).toInt = (B : ℤ)) :
    val_main_v49 (F := Ideal) x0 (ix3 p k h) = x0 (ix2 (Fin.ofNat 32 B) h) :=
  (gather_row x0 (val_main_v48 (F := Ideal)) p k h).trans (congrArg (fun z => x0 (ix2 z h)) (clamp_word _ B hb hw _))

/-- The gathered bias below the diagonal. -/
theorem bias_at (p k : Fin 2048) (h : Fin 8) (hk : k.val ≤ p.val) :
    val_main_v49 (F := Ideal) x0 (ix3 p k h) = x0 (ix2 (Fin.ofNat 32 (bk 31 ((p.val : ℤ) - k.val))) h) :=
  bias_of x0 p k h _ (bk_le 31 _) (bucket_at p k hk)

/-- A scaled query lane of the reference. -/
theorem query_at (b : Fin 8) (p : Fin 2048) (h : Fin 8) (a : Fin 2) (d : Fin 64) :
    val_main_v3 (F := Ideal) x1 (ix5 b p h a d) = x1 (ix3 b p ⟨128 * h.val + 64 * a.val + d.val, by omega⟩) * Ideal.ofBits .f32 0x3E000000#32 := by
  rw [val_main_v3_apply, val_main_v2_apply, val_main_cst_apply, val_main_v1_apply, val_main_v0_apply]
  have e : idx_main_v1 (ix5 b p h a d) = ix3 b p ⟨128 * h.val + 64 * a.val + d.val, by omega⟩ := by
    funext c; refine Fin.ext ?_
    match c with
    | ⟨0, _⟩ => show ((((b.val * 2048 + p.val) * 8 + h.val) * 2 + a.val) * 64 + d.val) / 2097152 = b.val; omega
    | ⟨1, _⟩ => show ((((b.val * 2048 + p.val) * 8 + h.val) * 2 + a.val) * 64 + d.val) / 1024 % 2048 = p.val; omega
    | ⟨2, _⟩ => show ((((b.val * 2048 + p.val) * 8 + h.val) * 2 + a.val) * 64 + d.val) % 1024 = 128 * h.val + 64 * a.val + d.val; omega
  rw [e]
  rfl

/-- A key lane of the reference. -/
theorem key_at (b : Fin 8) (k : Fin 2048) (h : Fin 8) (a : Fin 2) (d : Fin 64) :
    val_main_v6 (F := Ideal) x2 (ix5 b k h a d) = x2 (ix3 b ⟨128 * h.val + 64 * a.val + d.val, by omega⟩ k) := by
  rw [val_main_v6_apply, val_main_v5_apply, val_main_v4_apply]
  have e : idx_main_v5 (idx_main_v6 (ix5 b k h a d)) = ix3 b ⟨128 * h.val + 64 * a.val + d.val, by omega⟩ k := by
    funext c; refine Fin.ext ?_
    match c with
    | ⟨0, _⟩ => show ((((b.val * 2048 + k.val) * 8 + h.val) * 2 + a.val) * 64 + d.val) / 2097152 = b.val; omega
    | ⟨1, _⟩ => show ((((b.val * 2048 + k.val) * 8 + h.val) * 2 + a.val) * 64 + d.val) % 1024 = 128 * h.val + 64 * a.val + d.val; omega
    | ⟨2, _⟩ => show ((((b.val * 2048 + k.val) * 8 + h.val) * 2 + a.val) * 64 + d.val) / 1024 % 2048 = k.val; omega
  rw [e]
  rfl

/-- The reference's score of a query against a key, masked above the diagonal. -/
def refScore (b h : Fin 8) (a : Fin 2) (p k : Fin 2048) : EReal :=
  if k.val ≤ p.val then
    (∑ d : Fin 64, (x1 (ix3 b p ⟨128 * h.val + 64 * a.val + d.val, by omega⟩) * Ideal.ofBits .f32 0x3E000000#32) * x2 (ix3 b ⟨128 * h.val + 64 * a.val + d.val, by omega⟩ k))
      + x0 (ix2 (Fin.ofNat 32 (bk 31 ((p.val : ℤ) - k.val))) h)
  else ⊥

/-- … is what its operations compute. -/
theorem score_at (b h : Fin 8) (a : Fin 2) (p k : Fin 2048) : val_main_v58 (F := Ideal) x0 x1 x2 (ix5 b h a p k) = refScore x0 x1 x2 b h a p k := by
  have e57 : val_main_call1_v1 (F := Ideal) (ix5 b h a p k) = IntOp.cmpi .sge (IntOp.subi (BitVec.ofNat 32 p.val) (BitVec.ofNat 32 k.val)) 0#32 := by
    rw [val_main_call1_v1_apply, val_main_v57_apply, val_main_v56_apply, val_main_v55_apply, val_main_c_12_apply]
    have e : idx_main_v57 (idx_main_call1_v1 (ix5 b h a p k)) = ix2 p k := funext fun a => Fin.ext (by match a with | ⟨0, _⟩ => rfl | ⟨1, _⟩ => rfl)
    rw [e, rel_at]
  have hi : (IntOp.subi (BitVec.ofNat 32 p.val) (BitVec.ofNat 32 k.val)).toInt = (p.val : ℤ) - k.val := by
    have := Affine.subi (e := (p.val : ℤ) - k.val) (Affine.ofNat (e := p.val) p.val ⟨rfl, by omega⟩) (Affine.ofNat (e := k.val) k.val ⟨rfl, by omega⟩) ⟨rfl, by omega, by omega⟩
    unfold Affine.IsInt at this
    exact this
  have hc : IntOp.cmpi .sge (IntOp.subi (BitVec.ofNat 32 p.val) (BitVec.ofNat 32 k.val)) 0#32 = 1#1 ↔ k.val ≤ p.val := by
    rw [WordCmp.cmpi_sge_eq, WordCmp.ofBool_decide_eq_one_iff, hi]
    show (0 : ℤ) ≤ _ ↔ _
    omega
  rw [val_main_v58_apply, e57]
  unfold refScore
  by_cases hk : k.val ≤ p.val
  · rw [if_pos hk, Scalar.select]
    refine (if_pos (hc.2 hk)).trans ?_
    rw [val_main_v54_apply, val_main_v51_apply, val_main_v53_apply, val_main_v52_apply, val_main_v50_apply]
    have e : idx_main_v50 (idx_main_v52 (idx_main_v53 (ix5 b h a p k))) = ix3 p k h :=
      funext fun a => Fin.ext (by match a with | ⟨0, _⟩ => rfl | ⟨1, _⟩ => rfl | ⟨2, _⟩ => rfl)
    rw [e, bias_at x0 p k h hk]
    refine congrArg (· + x0 (ix2 (Fin.ofNat 32 (bk 31 ((p.val : ℤ) - k.val))) h)) (Finset.sum_congr rfl fun d _ => ?_)
    have el : lidx_main_v51 (ix5 b h a p k) d = ix5 b p h a d :=
      funext fun a => Fin.ext (by match a with | ⟨0, _⟩ => rfl | ⟨1, _⟩ => rfl | ⟨2, _⟩ => rfl | ⟨3, _⟩ => rfl | ⟨4, _⟩ => rfl)
    have er : ridx_main_v51 (ix5 b h a p k) d = ix5 b k h a d :=
      funext fun a => Fin.ext (by match a with | ⟨0, _⟩ => rfl | ⟨1, _⟩ => rfl | ⟨2, _⟩ => rfl | ⟨3, _⟩ => rfl | ⟨4, _⟩ => rfl)
    rw [el, er, query_at, key_at]
  · rw [if_neg hk, Scalar.select]
    refine (if_neg (fun h => hk (hc.1 h))).trans ?_
    rw [val_main_call1_v2_apply, val_main_call1_v0_apply, val_main_cst_13_apply]
    show Ideal.ofBits .f32 0xFF800000#32 = ⊥
    simp [Ideal.ofBits, Ideal.ieee]

/-- The largest score of a row. -/
theorem top_at (b h : Fin 8) (a : Fin 2) (p : Fin 2048) :
    val_main_v61 (F := Ideal) x0 x1 x2 (ix4 b h a p) = Finset.univ.fold max (⊥ : EReal) (fun k => refScore x0 x1 x2 b h a p k) := by
  have hb : Ideal.ofBits .f32 0xFF800000#32 = (⊥ : EReal) := by simp [Ideal.ofBits, Ideal.ieee]
  have e59 : val_main_v59 (F := Ideal) x0 x1 x2 (ix4 b h a p) = Finset.univ.fold max (⊥ : EReal) (fun k => refScore x0 x1 x2 b h a p k) := by
    have hr : S8x8x2x2048x2048.Reduces [4] S8x8x2x2048 := by decide
    unfold val_main_v59
    refine (Host.reduce_eq_fold_single (max : EReal → EReal → EReal) (val_main_v58 (F := Ideal) x0 x1 x2) (val_main_cst_14 (F := Ideal)) reducesTo_S8x8x2x2048x2048_S8x8x2x2048_d4 hr h_S_ (ix4 b h a p)).trans ?_
    rw [show val_main_cst_14 (F := Ideal) (Shape.Idx.first h_S_) = (⊥ : EReal) from hb]
    refine congrArg (Finset.fold max (⊥ : EReal) · Finset.univ) (funext fun k : Fin 2048 => ?_)
    refine (congrArg (val_main_v58 (F := Ideal) x0 x1 x2) ?_).trans (score_at x0 x1 x2 b h a p k)
    exact funext fun c => Fin.ext (by match c with | ⟨0, _⟩ => rfl | ⟨1, _⟩ => rfl | ⟨2, _⟩ => rfl | ⟨3, _⟩ => rfl | ⟨4, _⟩ => rfl)
  rw [val_main_v61_apply, val_main_v60_apply, val_main_cst_15_apply, e59]
  show max (Ideal.ofBits .f32 0xFF800000#32) _ = _
  rw [hb]
  exact max_eq_right bot_le

/-- A softmax weight of the reference. -/
def refWeight (b h : Fin 8) (a : Fin 2) (p k : Fin 2048) : EReal :=
  Ideal.div (Ideal.exp (refScore x0 x1 x2 b h a p k - Finset.univ.fold max (⊥ : EReal) fun k => refScore x0 x1 x2 b h a p k))
    (∑ k', Ideal.exp (refScore x0 x1 x2 b h a p k' - Finset.univ.fold max (⊥ : EReal) fun k => refScore x0 x1 x2 b h a p k))

theorem exp_at (b h : Fin 8) (a : Fin 2) (p k : Fin 2048) : val_main_v65 (F := Ideal) x0 x1 x2 (ix5 b h a p k)
    = Ideal.exp (refScore x0 x1 x2 b h a p k - Finset.univ.fold max (⊥ : EReal) fun k => refScore x0 x1 x2 b h a p k) := by
  rw [val_main_v65_apply, val_main_v64_apply, val_main_v63_apply, val_main_v62_apply, score_at]
  have e : idx_main_v62 (idx_main_v63 (ix5 b h a p k)) = ix4 b h a p :=
    funext fun a => Fin.ext (by match a with | ⟨0, _⟩ => rfl | ⟨1, _⟩ => rfl | ⟨2, _⟩ => rfl | ⟨3, _⟩ => rfl)
  rw [e, top_at]
  rfl

/-- … is what its operations compute. -/
theorem weight_at (b h : Fin 8) (a : Fin 2) (p k : Fin 2048) : val_main_v69 (F := Ideal) x0 x1 x2 (ix5 b h a p k) = refWeight x0 x1 x2 b h a p k := by
  rw [val_main_v69_apply, val_main_v68_apply, val_main_v67_apply, exp_at]
  have e : idx_main_v67 (idx_main_v68 (ix5 b h a p k)) = ix4 b h a p :=
    funext fun a => Fin.ext (by match a with | ⟨0, _⟩ => rfl | ⟨1, _⟩ => rfl | ⟨2, _⟩ => rfl | ⟨3, _⟩ => rfl)
  rw [e, val_main_v66_apply, val_main_cst_16_apply]
  have hs : (∑ k' : Fin 2048, val_main_v65 (F := Ideal) x0 x1 x2 (idx_main_v66 (ix4 b h a p) k'))
      = ∑ k', Ideal.exp (refScore x0 x1 x2 b h a p k' - Finset.univ.fold max (⊥ : EReal) fun k => refScore x0 x1 x2 b h a p k) :=
    Finset.sum_congr rfl fun k' _ => by
      rw [← exp_at]
      exact congrArg (val_main_v65 (F := Ideal) x0 x1 x2) (funext fun a => Fin.ext (by match a with | ⟨0, _⟩ => rfl | ⟨1, _⟩ => rfl | ⟨2, _⟩ => rfl | ⟨3, _⟩ => rfl | ⟨4, _⟩ => rfl))
  rw [hs]
  have hz : (FloatOps.ofBits .f32 0x00000000#32 : Ideal .f32) = (0 : EReal) := by
    show Ideal.ofBits .f32 0x00000000#32 = 0
    simp [Ideal.ofBits, Ideal.ieee]
  rw [hz]
  show Ideal.div _ (0 + _) = _
  rw [zero_add]
  rfl

end Cert.Attn

end
-- ==== Proof.Attn.RefRead.lean ====
/- The reference's result, read at an index. -/
module

public import proofs.«01_k».proof.Proof.Attn.RefScore
public import proofs.«01_k».proof.Proof.Attn.Tile

@[expose] public section

set_option maxRecDepth 16384

noncomputable section

namespace Cert.Attn

open Cert.ReferenceIdeal Cert.ReferenceIdeal.Gen Cert.ReferenceIdeal.Read Idealize.ShloMosaic Idealize.ShloMosaic.TcCoe Idealize.SL.Sem

variable (x0 : (⟨S32x8, .f32⟩ : BufTy).Contents (Elt Ideal)) (x1 : (⟨S8x2048x1024, .bf16⟩ : BufTy).Contents (Elt Ideal))
  (x2 : (⟨S8x1024x2048, .bf16⟩ : BufTy).Contents (Elt Ideal)) (x3 : (⟨S8x2048x1024, .bf16⟩ : BufTy).Contents (Elt Ideal))
  (x4 x5 x6 x7 : (⟨S64, .f32⟩ : BufTy).Contents (Elt Ideal)) (x8 : (⟨S128, .f32⟩ : BufTy).Contents (Elt Ideal))

/-- The weight of the second half, from its four vectors. -/
def lamOf (l0 l1 l2 l3 : Fin 64 → EReal) : EReal :=
  (Ideal.exp (∑ d, l0 d * l1 d) - Ideal.exp (∑ d, l2 d * l3 d)) + Ideal.ofBits .f32 0x3EF1014C#32

theorem zero_word : Ideal.ofBits .f32 0x00000000#32 = (0 : EReal) := by simp [Ideal.ofBits, Ideal.ieee]

/-- A sum over the indices of a vector of 64. -/
theorem sum_idx64 (f : S64.Idx → EReal) : ∑ j : S64.Idx, f j = ∑ d : Fin 64, f (ix1 d) :=
  (Fintype.sum_equiv (⟨fun d => ix1 d, fun j => j 0, fun d => rfl, fun j => by funext a; obtain rfl : a = 0 := Subsingleton.elim _ _; rfl⟩ : Fin 64 ≃ S64.Idx) _ _ fun d => rfl).symm

/-- The reference's weight of the second half. -/
theorem lam_at (i : S_.Idx) : val_main_v16 (F := Ideal) x4 x5 x6 x7 i
    = lamOf (fun d => x4 (ix1 d)) (fun d => x5 (ix1 d)) (fun d => x6 (ix1 d)) (fun d => x7 (ix1 d)) := by
  rw [val_main_v16_apply, val_main_cst_2_apply, val_main_v15_apply, val_main_v11_apply, val_main_v14_apply, val_main_v10_apply, val_main_v13_apply,
    val_main_cst_0_apply, val_main_cst_1_apply, sum_idx64, sum_idx64]
  show (Ideal.exp (Ideal.ofBits .f32 0x00000000#32 + ∑ d : Fin 64, x4 (ix1 d) * x5 (ix1 d)) - Ideal.exp (Ideal.ofBits .f32 0x00000000#32 + ∑ d : Fin 64, x6 (ix1 d) * x7 (ix1 d)))
    + Ideal.ofBits .f32 0x3EF1014C#32 = _
  rw [zero_word, zero_add, zero_add]
  rfl

/-- The reference's attention before the normalisation. -/
def refAttn (b h : Fin 8) (p : Fin 2048) (l : Fin 128) : EReal :=
  ∑ k : Fin 2048, x3 (ix3 b k ⟨128 * h.val + l.val, by omega⟩)
    * (refWeight x0 x1 x2 b h 0 p k
      - lamOf (fun d => x4 (ix1 d)) (fun d => x5 (ix1 d)) (fun d => x6 (ix1 d)) (fun d => x7 (ix1 d)) * refWeight x0 x1 x2 b h 1 p k)

/-- A value lane of the reference. -/
theorem value_at (b : Fin 8) (k : Fin 2048) (h : Fin 8) (l : Fin 128) :
    val_main_v8 (F := Ideal) x3 (ix4 b k h l) = x3 (ix3 b k ⟨128 * h.val + l.val, by omega⟩) := by
  rw [val_main_v8_apply, val_main_v7_apply]
  have e : idx_main_v8 (ix4 b k h l) = ix3 b k ⟨128 * h.val + l.val, by omega⟩ := by
    funext c; refine Fin.ext ?_
    match c with
    | ⟨0, _⟩ => show (((b.val * 2048 + k.val) * 8 + h.val) * 128 + l.val) / 2097152 = b.val; omega
    | ⟨1, _⟩ => show (((b.val * 2048 + k.val) * 8 + h.val) * 128 + l.val) / 1024 % 2048 = k.val; omega
    | ⟨2, _⟩ => show (((b.val * 2048 + k.val) * 8 + h.val) * 128 + l.val) % 1024 = 128 * h.val + l.val; omega
  rw [e]
  rfl

/-- The difference of the two halves' weights. -/
theorem diff_at (b h : Fin 8) (p k : Fin 2048) : val_main_v76 (F := Ideal) x0 x1 x2 x4 x5 x6 x7 (ix4 b h p k)
    = refWeight x0 x1 x2 b h 0 p k - lamOf (fun d => x4 (ix1 d)) (fun d => x5 (ix1 d)) (fun d => x6 (ix1 d)) (fun d => x7 (ix1 d)) * refWeight x0 x1 x2 b h 1 p k := by
  rw [val_main_v76_apply, val_main_v71_apply, val_main_v70_apply, val_main_v75_apply, val_main_v74_apply, lam_at, val_main_v73_apply, val_main_v72_apply]
  have e0 : idx_main_v70 (idx_main_v71 (ix4 b h p k)) = ix5 b h 0 p k := by
    funext c; refine Fin.ext ?_
    match c with
    | ⟨0, _⟩ => show (((b.val * 8 + h.val) * 2048 + p.val) * 2048 + k.val) / 33554432 = b.val; omega
    | ⟨1, _⟩ => show (((b.val * 8 + h.val) * 2048 + p.val) * 2048 + k.val) / 4194304 % 8 = h.val; omega
    | ⟨2, _⟩ => rfl
    | ⟨3, _⟩ => show (((b.val * 8 + h.val) * 2048 + p.val) * 2048 + k.val) / 2048 % 2048 = p.val; omega
    | ⟨4, _⟩ => show (((b.val * 8 + h.val) * 2048 + p.val) * 2048 + k.val) % 2048 = k.val; omega
  have e1 : idx_main_v72 (idx_main_v73 (ix4 b h p k)) = ix5 b h 1 p k := by
    funext c; refine Fin.ext ?_
    match c with
    | ⟨0, _⟩ => show (((b.val * 8 + h.val) * 2048 + p.val) * 2048 + k.val) / 33554432 = b.val; omega
    | ⟨1, _⟩ => show (((b.val * 8 + h.val) * 2048 + p.val) * 2048 + k.val) / 4194304 % 8 = h.val; omega
    | ⟨2, _⟩ => rfl
    | ⟨3, _⟩ => show (((b.val * 8 + h.val) * 2048 + p.val) * 2048 + k.val) / 2048 % 2048 = p.val; omega
    | ⟨4, _⟩ => show (((b.val * 8 + h.val) * 2048 + p.val) * 2048 + k.val) % 2048 = k.val; omega
  rw [e0, e1, weight_at, weight_at]
  rfl

/-- The attention, as the reference's operations compute it. -/
theorem attn_at (b : Fin 8) (p : Fin 2048) (h : Fin 8) (l : Fin 128) :
    val_main_v78 (F := Ideal) x0 x1 x2 x3 x4 x5 x6 x7 (ix4 b p h l) = refAttn x0 x1 x2 x3 x4 x5 x6 x7 b h p l := by
  rw [val_main_v78_apply, val_main_v77_apply]
  refine Finset.sum_congr rfl fun k _ => ?_
  have el : lidx_main_v77 (idx_main_v78 (ix4 b p h l)) k = ix4 b k h l :=
    funext fun a => Fin.ext (by match a with | ⟨0, _⟩ => rfl | ⟨1, _⟩ => rfl | ⟨2, _⟩ => rfl | ⟨3, _⟩ => rfl)
  have er : ridx_main_v77 (idx_main_v78 (ix4 b p h l)) k = ix4 b h p k :=
    funext fun a => Fin.ext (by match a with | ⟨0, _⟩ => rfl | ⟨1, _⟩ => rfl | ⟨2, _⟩ => rfl | ⟨3, _⟩ => rfl)
  rw [el, er, value_at, diff_at]

/-- The reference's result at row `p` and lane `l` of head `h`. -/
theorem result_at (y : S8x2048x1024.Idx) (b : Fin 8) (p : Fin 2048) (h : Fin 8) (l : Fin 128) (hb : (y 0).val = b.val) (hp : (y 1).val = p.val)
    (hl : (y 2).val = 128 * h.val + l.val) :
    val_main_v95 (F := Ideal) x0 x1 x2 x3 x4 x5 x6 x7 x8 y = normRow (refAttn x0 x1 x2 x3 x4 x5 x6 x7 b h p) (fun l => x8 (ix1 l)) l := by
  have e : idx_main_v94 y = ix4 b p h l := by
    funext c; refine Fin.ext ?_
    match c with
    | ⟨0, _⟩ => show (((y 0).val * 2048 + (y 1).val) * 1024 + (y 2).val) / 2097152 = b.val; omega
    | ⟨1, _⟩ => show (((y 0).val * 2048 + (y 1).val) * 1024 + (y 2).val) / 1024 % 2048 = p.val; omega
    | ⟨2, _⟩ => show (((y 0).val * 2048 + (y 1).val) * 1024 + (y 2).val) / 128 % 8 = h.val; omega
    | ⟨3, _⟩ => show (((y 0).val * 2048 + (y 1).val) * 1024 + (y 2).val) % 128 = l.val; omega
  rw [val_main_v95_apply, val_main_v94_apply, e, val_main_v93_apply, val_main_v92_apply, val_main_cst_20_apply, val_main_v91_apply, val_main_v90_apply, val_main_v89_apply,
    val_main_v88_apply, val_main_v87_apply, val_main_v86_apply, val_main_v85_apply, val_main_v84_apply, val_main_cst_19_apply, val_main_v83_apply, val_main_v82_apply,
    val_main_cst_18_apply, val_main_v81_apply, val_main_v80_apply, val_main_cst_17_apply, attn_at]
  have e8 : idx_main_v89 (idx_main_v90 (ix4 b p h l)) = ix1 l := funext fun a => Fin.ext (by match a with | ⟨0, _⟩ => rfl)
  have hs : (∑ k : Fin 128, val_main_v79 (F := Ideal) x0 x1 x2 x3 x4 x5 x6 x7 (idx_main_v80 (idx_main_v81 (idx_main_v87 (ix4 b p h l))) k))
      = ∑ l' : Fin 128, refAttn x0 x1 x2 x3 x4 x5 x6 x7 b h p l' * refAttn x0 x1 x2 x3 x4 x5 x6 x7 b h p l' :=
    Finset.sum_congr rfl fun k _ => by
      have ek : idx_main_v80 (idx_main_v81 (idx_main_v87 (ix4 b p h l))) k = ix4 b p h k :=
        funext fun a => Fin.ext (by match a with | ⟨0, _⟩ => rfl | ⟨1, _⟩ => rfl | ⟨2, _⟩ => rfl | ⟨3, _⟩ => rfl)
      rw [val_main_v79_apply, ek, attn_at]
      rfl
  rw [e8, hs]
  have hz : (FloatOps.ofBits .f32 0x00000000#32 : Ideal .f32) = (0 : EReal) := zero_word
  rw [hz, zero_add]
  rfl

end Cert.Attn

end
-- ==== Proof.Attn.KernelRead.lean ====
/- The kernel's input blocks, read as elements of the arguments. -/
module

public import proofs.«01_k».proof.Proof.Attn.AllPoints
public import proofs.«01_k».proof.Proof.Attn.RefRead

@[expose] public section

set_option maxRecDepth 16384

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ)

/-- The block indices of the seven windows at every grid point. -/
theorem idx_all : ∀ t : Fin cfg0.N, win0_0.index t = ![0, 0] ∧ win0_1.index t = ![t.val / 4, 0, t.val % 4] ∧ win0_2.index t = ![t.val / 4, t.val % 4, 0]
    ∧ win0_3.index t = ![t.val / 4, 0, t.val % 4] ∧ win0_4.index t = ![0, 0] ∧ win0_5.index t = ![0, 0] ∧ win0_6.index t = ![t.val / 4, 0, t.val % 4] :=
  (by decide +kernel : ∀ t : Fin grid0.N, _)

/-- The batch of a grid point. -/
def batch (t : Fin cfg0.N) : Fin 8 := ⟨t.val / 4, by have h : t.val < 32 := lt_of_lt_of_eq t.isLt N_0; omega⟩

/-- The bucket table's block is the table. -/
theorem read_bias (c : Dev nD) (t : Fin cfg0.N) (b : Fin 32) (h : Fin 8) :
    iblk m c 0 t (ix2 b h) = m ((c : Thread nD τ).loc main_arg0) (ix2 b h) := by
  blk_ext! [iblk, V, idx_all t]

/-- An element of a point's query block. -/
theorem read_q (c : Dev nD) (t : Fin cfg0.N) (p : Fin 2048) (l : Fin 256) (l' : Fin 1024) (hl : l'.val = 256 * (t.val % 4) + l.val) :
    iblk m c 1 t (ix3 0 p l) = m ((c : Thread nD τ).loc main_arg1) (ix3 (batch t) p l') := by
  have hb : (batch t).val = t.val / 4 := rfl
  blk_ext! [iblk, V, idx_all t]

/-- An element of a point's key block. -/
theorem read_k (c : Dev nD) (t : Fin cfg0.N) (l : Fin 256) (k : Fin 2048) (l' : Fin 1024) (hl : l'.val = 256 * (t.val % 4) + l.val) :
    iblk m c 2 t (ix3 0 l k) = m ((c : Thread nD τ).loc main_arg2) (ix3 (batch t) l' k) := by
  have hb : (batch t).val = t.val / 4 := rfl
  blk_ext! [iblk, V, idx_all t]

/-- An element of a point's value block. -/
theorem read_v (c : Dev nD) (t : Fin cfg0.N) (k : Fin 2048) (l : Fin 256) (l' : Fin 1024) (hl : l'.val = 256 * (t.val % 4) + l.val) :
    iblk m c 3 t (ix3 0 k l) = m ((c : Thread nD τ).loc main_arg3) (ix3 (batch t) k l') := by
  have hb : (batch t).val = t.val / 4 := rfl
  blk_ext! [iblk, V, idx_all t]

/-- The stacked weight vectors' block is the stack. -/
theorem read_stack (c : Dev nD) (t : Fin cfg0.N) (k : Fin 4) (d : Fin 64) : iblk m c 4 t (ix2 k d) = V m c main_v4 (ix2 k d) := by
  blk_simp [iblk]
  generalize V m c main_v4 = X
  congr 1
  blk_ext [idx_all t]

/-- The four weight vectors, stacked. -/
def stackOf (x0 x1 x2 x3 : (⟨S64, .f32⟩ : BufTy).Contents (Elt Ideal)) : (⟨S4x64, .f32⟩ : BufTy).Contents (Elt Ideal) :=
  concatenate S4x64 0 [⟨S1x64, broadcastInDim S1x64 ![1] bcast_S64_S1x64_1 x0⟩, ⟨S1x64, broadcastInDim S1x64 ![1] bcast_S64_S1x64_1 x1⟩,
    ⟨S1x64, broadcastInDim S1x64 ![1] bcast_S64_S1x64_1 x2⟩, ⟨S1x64, broadcastInDim S1x64 ![1] bcast_S64_S1x64_1 x3⟩]
    concatenates_S1x64_S1x64_S1x64_S1x64_S4x64_d0

/-- The stack read at an element. -/
theorem stack_at (x0 x1 x2 x3 : (⟨S64, .f32⟩ : BufTy).Contents (Elt Ideal)) (k : Fin 4) (d : Fin 64) : stackOf x0 x1 x2 x3 (ix2 k d)
    = if k.val < 1 then x0 (ix1 d) else if k.val - 1 < 1 then x1 (ix1 d) else if k.val - 1 - 1 < 1 then x2 (ix1 d) else x3 (ix1 d) := by
  pointwise [stackOf]
  rfl

/-- The grid finds the four arguments stacked. -/
theorem stack_entry (c : Dev nD) : V m c main_v4 = stackOf (m ((c : Thread nD τ).loc main_arg4)) (m ((c : Thread nD τ).loc main_arg5))
    (m ((c : Thread nD τ).loc main_arg6)) (m ((c : Thread nD τ).loc main_arg7)) := rfl

/-- An element of the stack's block. -/
theorem read_lam (c : Dev nD) (t : Fin cfg0.N) (k : Fin 4) (d : Fin 64) : iblk m c 4 t (ix2 k d)
    = stackOf (m ((c : Thread nD τ).loc main_arg4)) (m ((c : Thread nD τ).loc main_arg5)) (m ((c : Thread nD τ).loc main_arg6))
        (m ((c : Thread nD τ).loc main_arg7)) (ix2 k d) :=
  (read_stack m c t k d).trans (congrFun (stack_entry m c) _)

/-- An element of the normalisation's scale. -/
theorem read_sub (c : Dev nD) (t : Fin cfg0.N) (l : Fin 128) :
    iblk m c 5 t (ix2 0 l) = m ((c : Thread nD τ).loc main_arg8) (ix1 l) := by
  blk_ext! [iblk, V, idx_all t]

/-- The kernel's weight of the second half, from the stack of its four vectors. -/
theorem lam_of_stack (S : Vec Ideal S4x64 .f32) : k0_pay170 S (ix2 0 0)
    = lamOf (fun d => S (ix2 0 d)) (fun d => S (ix2 1 d)) (fun d => S (ix2 2 d)) (fun d => S (ix2 3 d)) := by
  pointwise [k0_pay170, lamOf]

end Cert.Attn

end
-- ==== Proof.Attn.SoftMean.lean ====
/- Softmax-weighted means over the extended reals: what a row of masked scores gives, in base two and in base e. -/
module

public import Idealize.ShloMosaic.PureOps.Ideal.Laws

@[expose] public section

noncomputable section

namespace Cert.Attn

open Idealize.ShloMosaic
open scoped BigOperators

/-- The mean of `v` over the indices where `P` holds, weighted by the exponentials of `y`. -/
def softMean {ι : Type} [Fintype ι] (P : ι → Prop) [DecidablePred P] (y v : ι → ℝ) : ℝ :=
  (∑ k, if P k then Real.exp (y k) * v k else 0) / ∑ k, if P k then Real.exp (y k) else 0

/-- A sum of reals, as extended reals. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The largest of a row of masked reals, one of them not masked, is a real. -/
theorem top_real {ι : Type} [Fintype ι] (P : ι → Prop) [DecidablePred P] (z : ι → ℝ) (k0 : ι) (h0 : P k0) :
    ∃ μ : ℝ, (Finset.univ.fold max (⊥ : EReal) fun k => if P k then ((z k : ℝ) : EReal) else ⊥) = (μ : EReal) := by
  set f : ι → EReal := fun k => if P k then ((z k : ℝ) : EReal) else ⊥ with hf
  have h1 : ((z k0 : ℝ) : EReal) ≤ Finset.univ.fold max (⊥ : EReal) f :=
    (Finset.le_fold_max _).2 (Or.inr ⟨k0, Finset.mem_univ _, by simp [hf, h0]⟩)
  have h2 : Finset.univ.fold max (⊥ : EReal) f < ⊤ :=
    (Finset.fold_max_lt _).2 ⟨bot_lt_top, fun k _ => by
      simp only [hf]; split_ifs
      · exact EReal.coe_lt_top _
      · exact bot_lt_top⟩
  refine ⟨(Finset.univ.fold max (⊥ : EReal) f).toReal, (EReal.coe_toReal h2.ne ?_).symm⟩
  exact (lt_of_lt_of_le (EReal.bot_lt_coe _) h1).ne'

/-- The exponentials of a row that is not wholly masked sum to a positive real. -/
theorem sum_pos {ι : Type} [Fintype ι] (P : ι → Prop) [DecidablePred P] (y : ι → ℝ) (k0 : ι) (h0 : P k0) :
    0 < ∑ k, if P k then Real.exp (y k) else 0 :=
  Finset.sum_pos' (fun k _ => by split_ifs; exacts [(Real.exp_pos _).le, le_refl _]) ⟨k0, Finset.mem_univ _, by rw [if_pos h0]; exact Real.exp_pos _⟩

/-- Shifting the scores does not change the mean. -/
theorem softMean_shift {ι : Type} [Fintype ι] (P : ι → Prop) [DecidablePred P] (y v : ι → ℝ) (β : ℝ) :
    softMean P (fun k => y k - β) v = softMean P y v := by
  unfold softMean
  have e1 : (∑ k, if P k then Real.exp (y k - β) * v k else 0) = Real.exp (-β) * ∑ k, if P k then Real.exp (y k) * v k else 0 := by
    rw [Finset.mul_sum]
    refine Finset.sum_congr rfl fun k _ => ?_
    split_ifs
    · rw [sub_eq_add_neg, Real.exp_add]; ring
    · simp
  have e2 : (∑ k, if P k then Real.exp (y k - β) else 0) = Real.exp (-β) * ∑ k, if P k then Real.exp (y k) else 0 := by
    rw [Finset.mul_sum]
    refine Finset.sum_congr rfl fun k _ => ?_
    split_ifs
    · rw [sub_eq_add_neg, Real.exp_add]; ring
    · simp
  rw [e1, e2, mul_div_mul_left _ _ (Real.exp_pos _).ne']

/-- Two to the power of a quotient by `log 2`. -/
theorem rpow_two_div (a : ℝ) : Real.rpow 2 (a * (Real.log 2)⁻¹) = Real.exp a := by
  show (2 : ℝ) ^ (a * (Real.log 2)⁻¹) = _
  rw [Real.rpow_def_of_pos (by norm_num)]
  congr 1
  have : Real.log 2 ≠ 0 := (Real.log_pos (by norm_num)).ne'
  field_simp

/-- A masked term of base two, less a real. -/
theorem exp2_term (P : Prop) [Decidable P] (a μ : ℝ) :
    Ideal.exp2 ((if P then ((a * (Real.log 2)⁻¹ : ℝ) : EReal) else ⊥) - (μ : EReal)) = ((if P then Real.exp (a - μ * Real.log 2) else 0 : ℝ) : EReal) := by
  have hl : Real.log 2 ≠ 0 := (Real.log_pos (by norm_num)).ne'
  split_ifs
  · rw [← EReal.coe_sub, ← rpow_two_div]
    show ((Real.rpow 2 _ : ℝ) : EReal) = _
    congr 2
    field_simp
  · rw [EReal.bot_sub]
    rfl

/-- A masked term of base `e`, less a real. -/
theorem exp_term (P : Prop) [Decidable P] (a μ : ℝ) :
    Ideal.exp ((if P then ((a : ℝ) : EReal) else ⊥) - (μ : EReal)) = ((if P then Real.exp (a - μ) else 0 : ℝ) : EReal) := by
  split_ifs
  · rw [← EReal.coe_sub]
    rfl
  · rw [EReal.bot_sub]
    rfl

/-- A quotient of reals by a positive real. -/
theorem div_real (a b : ℝ) (hb : 0 < b) : Ideal.div (a : EReal) (b : EReal) = ((a / b : ℝ) : EReal) := by
  unfold Ideal.div
  rw [if_neg (by exact_mod_cast hb.ne'), div_eq_mul_inv, EReal.coe_mul, EReal.coe_inv]

/-- The kernel's mean of a row: base two, the division last. -/
theorem mean_two {ι : Type} [Fintype ι] (P : ι → Prop) [DecidablePred P] (y v : ι → ℝ) (k0 : ι) (h0 : P k0) (x : ι → EReal)
    (hx : ∀ k, x k = if P k then ((y k * (Real.log 2)⁻¹ : ℝ) : EReal) else ⊥) :
    Ideal.div (∑ k, Ideal.exp2 (x k - Finset.univ.fold max (⊥ : EReal) x) * ((v k : ℝ) : EReal))
        (∑ k, Ideal.exp2 (x k - Finset.univ.fold max (⊥ : EReal) x) * 1) = ((softMean P y v : ℝ) : EReal) := by
  obtain rfl : x = fun k => if P k then ((y k * (Real.log 2)⁻¹ : ℝ) : EReal) else ⊥ := funext hx
  obtain ⟨μ, hμ⟩ := top_real P (fun k => y k * (Real.log 2)⁻¹) k0 h0
  rw [hμ]
  simp only [exp2_term, mul_one, ← EReal.coe_mul, coe_sum]
  rw [div_real _ _ (sum_pos P (fun k => y k - μ * Real.log 2) k0 h0)]
  rw [← softMean_shift P y v (μ * Real.log 2)]
  unfold softMean
  simp only [ite_mul, zero_mul]

/-- The reference's mean of a row: base `e`, each weight divided. -/
theorem weights_e {ι : Type} [Fintype ι] (P : ι → Prop) [DecidablePred P] (y : ι → ℝ) (k0 : ι) (h0 : P k0) (x : ι → EReal)
    (hx : ∀ k, x k = if P k then ((y k : ℝ) : EReal) else ⊥) :
    ∃ p : ι → ℝ, (∀ k, Ideal.div (Ideal.exp (x k - Finset.univ.fold max (⊥ : EReal) x)) (∑ k', Ideal.exp (x k' - Finset.univ.fold max (⊥ : EReal) x)) = ((p k : ℝ) : EReal))
      ∧ ∀ v : ι → ℝ, ∑ k, p k * v k = softMean P y v := by
  obtain rfl : x = fun k => if P k then ((y k : ℝ) : EReal) else ⊥ := funext hx
  obtain ⟨μ, hμ⟩ := top_real P y k0 h0
  rw [hμ]
  simp only [exp_term, coe_sum]
  have hp := sum_pos P (fun k => y k - μ) k0 h0
  refine ⟨fun k => (if P k then Real.exp (y k - μ) else 0) / ∑ k', if P k' then Real.exp (y k' - μ) else 0, fun k => div_real _ _ hp, fun v => ?_⟩
  rw [← softMean_shift P y v μ]
  unfold softMean
  rw [Finset.sum_div]
  refine Finset.sum_congr rfl fun k _ => ?_
  by_cases hk : P k
  · simp only [if_pos hk]; exact div_mul_eq_mul_div _ _ _
  · simp only [if_neg hk, zero_div, zero_mul]

/-- The mean over the first `W` of `N` indices is the mean over all of them when the mask leaves out the others. -/
theorem softMean_castLE {W N : ℕ} (hW : W ≤ N) (p : ℕ) (hp : p < W) (y v : Fin N → ℝ) :
    softMean (fun k : Fin W => k.val ≤ p) (fun k => y (Fin.castLE hW k)) (fun k => v (Fin.castLE hW k)) = softMean (fun k : Fin N => k.val ≤ p) y v := by
  have key : ∀ f : Fin N → ℝ, (∑ k : Fin W, if k.val ≤ p then f (Fin.castLE hW k) else 0) = ∑ k : Fin N, if k.val ≤ p then f k else 0 := by
    intro f
    rw [← Finset.sum_subset (Finset.subset_univ (Finset.univ.map (Fin.castLEEmb hW)))]
    · rw [Finset.sum_map]; rfl
    · intro k _ hk
      rw [if_neg]
      intro hkp
      exact hk (Finset.mem_map.2 ⟨⟨k.val, by omega⟩, Finset.mem_univ _, Fin.ext rfl⟩)
  unfold softMean
  rw [key fun k => Real.exp (y k) * v k, key fun k => Real.exp (y k)]

end Cert.Attn

end
-- ==== Proof.Attn.Rows.lean ====
/- The kernel's scores and biases of a row, on real inputs. -/
module

public import proofs.«01_k».proof.Proof.Attn.RefRead
public import proofs.«01_k».proof.Proof.Attn.SoftMean

@[expose] public section

set_option maxRecDepth 16384

noncomputable section

namespace Cert.Attn

open Idealize.ShloMosaic

/-- The kernel's product over the 64 lanes of a half, on reals. -/
theorem half_real (c : Fin 2) (q k : Fin 128 → ℝ) :
    halfScore c (fun d => ((q d : ℝ) : EReal)) (fun d => ((k d : ℝ) : EReal))
      = (((∑ d : Fin 64, (q ⟨64 * c.val + d.val, by omega⟩ * (1 / 8)) * k ⟨64 * c.val + d.val, by omega⟩) * (Real.log 2)⁻¹ : ℝ) : EReal) := by
  unfold halfScore
  have hq : qscale = (((1 / 8) * (Real.log 2)⁻¹ : ℝ) : EReal) := rfl
  have e : ∀ d : Fin 128, (if c.val = 0 then (if d.val < 64 then ((q d : ℝ) : EReal) * qscale else 0) else (if d.val < 64 then 0 else ((q d : ℝ) : EReal) * qscale)) * ((k d : ℝ) : EReal)
      = (((if c.val = 0 then (if d.val < 64 then q d * ((1 / 8) * (Real.log 2)⁻¹) else 0) else (if d.val < 64 then 0 else q d * ((1 / 8) * (Real.log 2)⁻¹))) * k d : ℝ) : EReal) := by
    intro d
    rw [hq]
    split_ifs <;> simp only [EReal.coe_mul, EReal.coe_zero, zero_mul]
  rw [Finset.sum_congr rfl fun d _ => e d, coe_sum]
  congr 1
  rw [Finset.sum_mul]
  refine (Fin.sum_univ_add (a := 64) (b := 64) (fun d : Fin (64 + 64) => (if c.val = 0 then (if d.val < 64 then q d * ((1 / 8) * (Real.log 2)⁻¹) else 0) else (if d.val < 64 then 0 else q d * ((1 / 8) * (Real.log 2)⁻¹))) * k d)).trans ?_
  have h2 : c.val = 0 ∨ c.val = 1 := by omega
  rcases h2 with h2 | h2
  · rw [Finset.sum_eq_zero (s := Finset.univ) (f := fun i : Fin 64 => (if c.val = 0 then (if (Fin.natAdd 64 i).val < 64 then q (Fin.natAdd 64 i) * ((1 / 8) * (Real.log 2)⁻¹) else 0) else (if (Fin.natAdd 64 i).val < 64 then 0 else q (Fin.natAdd 64 i) * ((1 / 8) * (Real.log 2)⁻¹))) * k (Fin.natAdd 64 i)), add_zero]
    · refine Finset.sum_congr rfl fun d _ => ?_
      have hd : (Fin.castAdd 64 d : Fin (64 + 64)) = (⟨64 * c.val + d.val, by omega⟩ : Fin 128) := Fin.ext (by show d.val = 64 * c.val + d.val; omega)
      rw [if_pos h2, if_pos (by show d.val < 64; omega), hd]
      ring
    · intro d _
      rw [if_pos h2, if_neg (by show ¬ 64 + d.val < 64; omega), zero_mul]
  · rw [Finset.sum_eq_zero (s := Finset.univ) (f := fun i : Fin 64 => (if c.val = 0 then (if (Fin.castAdd 64 i).val < 64 then q (Fin.castAdd 64 i) * ((1 / 8) * (Real.log 2)⁻¹) else 0) else (if (Fin.castAdd 64 i).val < 64 then 0 else q (Fin.castAdd 64 i) * ((1 / 8) * (Real.log 2)⁻¹))) * k (Fin.castAdd 64 i)), zero_add]
    · refine Finset.sum_congr rfl fun d _ => ?_
      have hd : (Fin.natAdd 64 d : Fin (64 + 64)) = (⟨64 * c.val + d.val, by omega⟩ : Fin 128) := Fin.ext (by show 64 + d.val = 64 * c.val + d.val; omega)
      rw [if_neg (by omega), if_neg (by show ¬ 64 + d.val < 64; omega), hd]
      ring
    · intro d _
      rw [if_neg (by omega), if_pos (by show d.val < 64; omega), zero_mul]

variable (r0 : (⟨2, ![32, 8]⟩ : Shape).Idx → ℝ) (r1 : (⟨3, ![8, 2048, 1024]⟩ : Shape).Idx → ℝ) (r2 : (⟨3, ![8, 1024, 2048]⟩ : Shape).Idx → ℝ)
  (r3 : (⟨3, ![8, 2048, 1024]⟩ : Shape).Idx → ℝ)

/-- The score of a query against a key, over the reals. -/
def scoreR (b h : Fin 8) (c : Fin 2) (p k : Fin 2048) : ℝ :=
  (∑ d : Fin 64, (r1 (ix3 b p ⟨128 * h.val + 64 * c.val + d.val, by omega⟩) * (1 / 8)) * r2 (ix3 b ⟨128 * h.val + 64 * c.val + d.val, by omega⟩ k))
    + r0 (ix2 (Fin.ofNat 32 (bk 31 ((p.val : ℤ) - k.val))) h)

/-- The weighted mean of a lane of the values, over the reals. -/
def meanR (b h : Fin 8) (c : Fin 2) (p : Fin 2048) (l : Fin 128) : ℝ :=
  softMean (fun k : Fin 2048 => k.val ≤ p.val) (scoreR r0 r1 r2 b h c p) (fun k => r3 (ix3 b k ⟨128 * h.val + l.val, by omega⟩))

/-- The bias of a key in a row of the kernel: its table's word less the last one's. -/
theorem bias_real (h : Fin 8) (i : Fin 8) (r : Fin 256) (p : Fin 2048) (hp : p.val = 256 * i.val + r.val) (k : ℕ) (hk : k < 256 * (i.val + 1)) :
    biasRow (i.val + 1) (fun c => biasG (fun b h => ((r0 (ix2 b h) : ℝ) : EReal)) (ix4 h 0 r c)) (fun c => biasG (fun b h => ((r0 (ix2 b h) : ℝ) : EReal)) (ix4 h 1 r c)) k
      = if k ≤ p.val then (((r0 (ix2 (Fin.ofNat 32 (bk 31 ((p.val : ℤ) - k))) h) - r0 (ix2 31 h)) * (Real.log 2)⁻¹ : ℝ) : EReal) else ⊥ := by
  unfold biasRow
  by_cases h1 : k / 256 + 1 = i.val + 1
  · rw [if_pos h1]
    show (if (0 : ℕ) = 0 ∧ r.val < k % 256 then ⊥ else (((r0 (ix2 (Fin.ofNat 32 (bk 31 ((r.val : ℤ) - ((k % 256 : ℕ) : ℤ) + 256 * ((0 : ℕ) : ℤ)))) h) : ℝ) : EReal) - ((r0 (ix2 31 h) : ℝ) : EReal)) * log2e) = _
    by_cases h2 : k ≤ p.val
    · rw [if_neg (by omega), if_pos h2, show (r.val : ℤ) - ((k % 256 : ℕ) : ℤ) + 256 * ((0 : ℕ) : ℤ) = (p.val : ℤ) - k by omega]
      rw [← EReal.coe_sub, ← EReal.coe_mul]
    · rw [if_pos (by omega), if_neg h2]
  · rw [if_neg h1, if_pos (show k ≤ p.val by omega)]
    by_cases h2 : k / 256 + 2 = i.val + 1
    · rw [if_pos h2]
      show (if (1 : ℕ) = 0 ∧ r.val < k % 256 then ⊥ else (((r0 (ix2 (Fin.ofNat 32 (bk 31 ((r.val : ℤ) - ((k % 256 : ℕ) : ℤ) + 256 * ((1 : ℕ) : ℤ)))) h) : ℝ) : EReal) - ((r0 (ix2 31 h) : ℝ) : EReal)) * log2e) = _
      rw [if_neg (by omega), show (r.val : ℤ) - ((k % 256 : ℕ) : ℤ) + 256 * ((1 : ℕ) : ℤ) = (p.val : ℤ) - k by omega]
      rw [← EReal.coe_sub, ← EReal.coe_mul]
    · rw [if_neg h2, bk_far _ (by omega)]
      rw [show r0 (ix2 (Fin.ofNat 32 31) h) - r0 (ix2 31 h) = 0 from sub_self _, zero_mul, EReal.coe_zero]

end Cert.Attn

end
-- ==== Proof.Attn.Core.lean ====
/- A row of the kernel's formula, on real inputs, is the reference's. -/
module

public import proofs.«01_k».proof.Proof.Attn.Rows

@[expose] public section

set_option maxRecDepth 16384

noncomputable section

namespace Cert.Attn

open Idealize.ShloMosaic

variable (r0 : (⟨2, ![32, 8]⟩ : Shape).Idx → ℝ) (r1 : (⟨3, ![8, 2048, 1024]⟩ : Shape).Idx → ℝ) (r2 : (⟨3, ![8, 1024, 2048]⟩ : Shape).Idx → ℝ)
  (r3 : (⟨3, ![8, 2048, 1024]⟩ : Shape).Idx → ℝ)

/-- The kernel's score of a row and a key. -/
theorem score_kernel (b h : Fin 8) (c : Fin 2) (i : Fin 8) (r : Fin 256) (p : Fin 2048) (hp : p.val = 256 * i.val + r.val) (k : Fin 2048) (hk : k.val < 256 * (i.val + 1)) :
    halfScore c (fun d => ((r1 (ix3 b p ⟨128 * h.val + d.val, by omega⟩) : ℝ) : EReal)) (fun d => ((r2 (ix3 b ⟨128 * h.val + d.val, by omega⟩ k) : ℝ) : EReal))
        + biasRow (i.val + 1) (fun c => biasG (fun b h => ((r0 (ix2 b h) : ℝ) : EReal)) (ix4 h 0 r c)) (fun c => biasG (fun b h => ((r0 (ix2 b h) : ℝ) : EReal)) (ix4 h 1 r c)) k.val
      = if k.val ≤ p.val then (((scoreR r0 r1 r2 b h c p k - r0 (ix2 31 h)) * (Real.log 2)⁻¹ : ℝ) : EReal) else ⊥ := by
  rw [half_real, bias_real r0 h i r p hp k.val hk]
  have hs : (∑ d : Fin 64, (r1 (ix3 b p ⟨128 * h.val + (64 * c.val + d.val), by omega⟩) * (1 / 8)) * r2 (ix3 b ⟨128 * h.val + (64 * c.val + d.val), by omega⟩ k))
      = ∑ d : Fin 64, (r1 (ix3 b p ⟨128 * h.val + 64 * c.val + d.val, by omega⟩) * (1 / 8)) * r2 (ix3 b ⟨128 * h.val + 64 * c.val + d.val, by omega⟩ k) :=
    Finset.sum_congr rfl fun d _ => by
      have e : (⟨128 * h.val + (64 * c.val + d.val), by omega⟩ : Fin 1024) = ⟨128 * h.val + 64 * c.val + d.val, by omega⟩ := Fin.ext (Nat.add_assoc _ _ _).symm
      rw [e]
  rw [hs]
  unfold scoreR
  generalize r0 (ix2 (Fin.ofNat 32 (bk 31 ((p.val : ℤ) - k.val))) h) = w
  generalize r0 (ix2 31 h) = w31
  by_cases hk : k.val ≤ p.val
  · rw [if_pos hk, if_pos hk, ← EReal.coe_add, ← add_mul, add_sub_assoc]
  · rw [if_neg hk, if_neg hk, EReal.add_bot]

/-- The kernel's weighted mean of a row. -/
theorem mean_kernel (b h : Fin 8) (c : Fin 2) (i : Fin 8) (r : Fin 256) (p : Fin 2048) (hp : p.val = 256 * i.val + r.val) (l : Fin 128) :
    meanRow (256 * (i.val + 1))
      (fun k => halfScore c (fun d => ((r1 (ix3 b p ⟨128 * h.val + d.val, by omega⟩) : ℝ) : EReal)) (fun d => ((r2 (ix3 b ⟨128 * h.val + d.val, by omega⟩ ⟨k.val, by omega⟩) : ℝ) : EReal))
        + biasRow (i.val + 1) (fun c => biasG (fun b h => ((r0 (ix2 b h) : ℝ) : EReal)) (ix4 h 0 r c)) (fun c => biasG (fun b h => ((r0 (ix2 b h) : ℝ) : EReal)) (ix4 h 1 r c)) k.val)
      (fun k => ((r3 (ix3 b ⟨k.val, by omega⟩ ⟨128 * h.val + l.val, by omega⟩) : ℝ) : EReal))
      = ((meanR r0 r1 r2 r3 b h c p l : ℝ) : EReal) := by
  have hW : 256 * (i.val + 1) ≤ 2048 := by omega
  unfold meanR
  rw [← softMean_castLE hW p.val (by omega), ← softMean_shift _ _ _ (r0 (ix2 31 h))]
  unfold meanRow top
  have hx := fun k : Fin (256 * (i.val + 1)) => score_kernel r0 r1 r2 b h c i r p hp (Fin.castLE hW k) k.isLt
  exact mean_two (ι := Fin (256 * (i.val + 1))) (fun k => k.val ≤ p.val) (fun k => scoreR r0 r1 r2 b h c p (Fin.castLE hW k) - r0 (ix2 31 h))
    (fun k => r3 (ix3 b (Fin.castLE hW k) ⟨128 * h.val + l.val, by omega⟩)) ⟨p.val, by omega⟩ (le_refl p.val) _ hx

/-- An eighth. -/
theorem eighth : Ideal.ofBits .f32 0x3E000000#32 = ((1 / 8 : ℝ) : EReal) := by
  simp [Ideal.ofBits, Ideal.ieee]
  exact_mod_cast (by norm_num : (8388608 : ℝ) * (2 ^ 26)⁻¹ = 8⁻¹)

/-- The reference's masked score on reals. -/
theorem refScore_real (b h : Fin 8) (c : Fin 2) (p k : Fin 2048) :
    refScore (fun i => ((r0 i : ℝ) : EReal)) (fun i => ((r1 i : ℝ) : EReal)) (fun i => ((r2 i : ℝ) : EReal)) b h c p k
      = if k.val ≤ p.val then ((scoreR r0 r1 r2 b h c p k : ℝ) : EReal) else ⊥ := by
  unfold refScore scoreR
  rw [eighth]
  simp only [← EReal.coe_mul, coe_sum, ← EReal.coe_add]

/-- The reference's attention on reals. -/
theorem refAttn_real (x4 x5 x6 x7 : (⟨1, ![64]⟩ : Shape).Idx → EReal) (lam : ℝ)
    (hlam : lamOf (fun d => x4 (ix1 d)) (fun d => x5 (ix1 d)) (fun d => x6 (ix1 d)) (fun d => x7 (ix1 d)) = (lam : EReal)) (b h : Fin 8) (p : Fin 2048) (l : Fin 128) :
    refAttn (fun i => ((r0 i : ℝ) : EReal)) (fun i => ((r1 i : ℝ) : EReal)) (fun i => ((r2 i : ℝ) : EReal)) (fun i => ((r3 i : ℝ) : EReal)) x4 x5 x6 x7 b h p l
      = ((meanR r0 r1 r2 r3 b h 0 p l - lam * meanR r0 r1 r2 r3 b h 1 p l : ℝ) : EReal) := by
  unfold refAttn
  rw [hlam]
  obtain ⟨p0, h0, s0⟩ := weights_e (fun k : Fin 2048 => k.val ≤ p.val) (scoreR r0 r1 r2 b h 0 p) p le_rfl _ (refScore_real r0 r1 r2 b h 0 p)
  obtain ⟨p1, h1, s1⟩ := weights_e (fun k : Fin 2048 => k.val ≤ p.val) (scoreR r0 r1 r2 b h 1 p) p le_rfl _ (refScore_real r0 r1 r2 b h 1 p)
  have w0 : ∀ k, refWeight (fun i => ((r0 i : ℝ) : EReal)) (fun i => ((r1 i : ℝ) : EReal)) (fun i => ((r2 i : ℝ) : EReal)) b h 0 p k = ((p0 k : ℝ) : EReal) := h0
  have w1 : ∀ k, refWeight (fun i => ((r0 i : ℝ) : EReal)) (fun i => ((r1 i : ℝ) : EReal)) (fun i => ((r2 i : ℝ) : EReal)) b h 1 p k = ((p1 k : ℝ) : EReal) := h1
  simp only [w0, w1, ← EReal.coe_mul, ← EReal.coe_sub, coe_sum]
  congr 1
  unfold meanR
  rw [← s0, ← s1, Finset.mul_sum, ← Finset.sum_sub_distrib]
  exact Finset.sum_congr rfl fun k _ => by ring

/-- A row of the kernel's formula is the reference's row. -/
theorem row_eq (x4 x5 x6 x7 : (⟨1, ![64]⟩ : Shape).Idx → EReal) (lam : ℝ)
    (hlam : lamOf (fun d => x4 (ix1 d)) (fun d => x5 (ix1 d)) (fun d => x6 (ix1 d)) (fun d => x7 (ix1 d)) = (lam : EReal)) (sub : Fin 128 → EReal)
    (b h : Fin 8) (i : Fin 8) (a : Fin 2) (r : Fin 256) (p : Fin 2048) (hp : p.val = 256 * i.val + r.val) (l : Fin 128)
    (Q : (⟨3, ![1, 2048, 256]⟩ : Shape).Idx → EReal) (KT : (⟨3, ![1, 256, 2048]⟩ : Shape).Idx → EReal) (V : (⟨3, ![1, 2048, 256]⟩ : Shape).Idx → EReal)
    (hQ : ∀ (p : Fin 2048) (d : Fin 128), Q (ix3 0 p ⟨128 * a.val + d.val, by omega⟩) = ((r1 (ix3 b p ⟨128 * h.val + d.val, by omega⟩) : ℝ) : EReal))
    (hK : ∀ (d : Fin 128) (k : Fin 2048), KT (ix3 0 ⟨128 * a.val + d.val, by omega⟩ k) = ((r2 (ix3 b ⟨128 * h.val + d.val, by omega⟩ k) : ℝ) : EReal))
    (hV : ∀ (k : Fin 2048) (d : Fin 128), V (ix3 0 k ⟨128 * a.val + d.val, by omega⟩) = ((r3 (ix3 b k ⟨128 * h.val + d.val, by omega⟩) : ℝ) : EReal)) :
    blockRow i a Q KT V (fun r c => biasG (fun b h => ((r0 (ix2 b h) : ℝ) : EReal)) (ix4 h 0 r c)) (fun r c => biasG (fun b h => ((r0 (ix2 b h) : ℝ) : EReal)) (ix4 h 1 r c))
        (lam : EReal) sub r l
      = normRow (refAttn (fun i => ((r0 i : ℝ) : EReal)) (fun i => ((r1 i : ℝ) : EReal)) (fun i => ((r2 i : ℝ) : EReal)) (fun i => ((r3 i : ℝ) : EReal)) x4 x5 x6 x7 b h p) sub l := by
  unfold blockRow
  congr 1
  funext l
  rw [refAttn_real r0 r1 r2 r3 x4 x5 x6 x7 lam hlam]
  have e : (⟨256 * i.val + r.val, by omega⟩ : Fin 2048) = p := Fin.ext hp.symm
  unfold diffRow
  rw [e]
  simp only [hQ, hK, hV]
  rw [mean_kernel r0 r1 r2 r3 b h 0 i r p hp l, mean_kernel r0 r1 r2 r3 b h 1 i r p hp l, ← EReal.coe_mul, ← EReal.coe_sub]

end Cert.Attn

end
-- ==== Proof.Attn.KernelValue.lean ====
/- The kernel's result array is the reference's result, on finite inputs. -/
module

public import proofs.«01_k».proof.Proof.Attn.KernelRead
public import proofs.«01_k».proof.Proof.Attn.Core

@[expose] public section

set_option maxRecDepth 16384

noncomputable section

namespace Cert.Attn

open Cert.KernelIdeal Cert.KernelIdeal.Gen Idealize.ShloMosaic Idealize.ShloMosaic.TcCoe Idealize.SL.Sem
open Cert.ReferenceIdeal.Read (val_main_v95)

variable (m : (ℓ : Loc nD τ sig) → Buf (Elt Ideal) ℓ)

/-- The kernel's weight of the second half at every point. -/
theorem lam_point (c : Dev nD) (t : Fin cfg0.N) : k0_pay170 (iblk m c 4 t) (ix2 0 0)
    = lamOf (fun d => m ((c : Thread nD τ).loc main_arg4) (ix1 d)) (fun d => m ((c : Thread nD τ).loc main_arg5) (ix1 d))
        (fun d => m ((c : Thread nD τ).loc main_arg6) (ix1 d)) (fun d => m ((c : Thread nD τ).loc main_arg7) (ix1 d)) := by
  refine (lam_of_stack (iblk m c 4 t)).trans ?_
  rw [funext fun d => read_lam m c t 0 d, funext fun d => read_lam m c t 1 d, funext fun d => read_lam m c t 2 d, funext fun d => read_lam m c t 3 d,
    funext fun d => stack_at _ _ _ _ 0 d, funext fun d => stack_at _ _ _ _ 1 d, funext fun d => stack_at _ _ _ _ 2 d, funext fun d => stack_at _ _ _ _ 3 d]
  rfl

/-- The bias tiles from the argument's table. -/
theorem bias0_eq (c : Dev nD) : bias0 m c = biasG (fun b h => m ((c : Thread nD τ).loc main_arg0) (ix2 b h)) := by
  unfold bias0
  rw [funext fun b => funext fun h => read_bias m c ⟨0, by decide⟩ b h]

/-- An element of a point's output block is the reference's element, where the inputs are real. -/
theorem block_eq (c : Dev nD) (t : Fin cfg0.N) (r0 : Cert.ReferenceIdeal.S32x8.Idx → ℝ) (r1 : Cert.ReferenceIdeal.S8x2048x1024.Idx → ℝ)
    (r2 : Cert.ReferenceIdeal.S8x1024x2048.Idx → ℝ) (r3 : Cert.ReferenceIdeal.S8x2048x1024.Idx → ℝ) (lam : ℝ)
    (h0 : m ((c : Thread nD τ).loc main_arg0) = fun i => ((r0 i : ℝ) : EReal))
    (h1 : m ((c : Thread nD τ).loc main_arg1) = fun i => ((r1 i : ℝ) : EReal))
    (h2 : m ((c : Thread nD τ).loc main_arg2) = fun i => ((r2 i : ℝ) : EReal))
    (h3 : m ((c : Thread nD τ).loc main_arg3) = fun i => ((r3 i : ℝ) : EReal))
    (hlam : lamOf (fun d => m ((c : Thread nD τ).loc main_arg4) (ix1 d)) (fun d => m ((c : Thread nD τ).loc main_arg5) (ix1 d))
        (fun d => m ((c : Thread nD τ).loc main_arg6) (ix1 d)) (fun d => m ((c : Thread nD τ).loc main_arg7) (ix1 d)) = ((lam : ℝ) : EReal))
    (y : S1x2048x256.Idx) (z : Cert.ReferenceIdeal.S8x2048x1024.Idx) (z0 : (z 0).val = t.val / 4) (z1 : (z 1).val = (y 1).val)
    (z2 : (z 2).val = 256 * (t.val % 4) + (y 2).val) :
    (outsAt0 m c t.val t.isLt).1 y = val_main_v95 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) z := by
  have hy1 : (y 1).val < 2048 := (y 1).isLt
  have hy2 : (y 2).val < 256 := (y 2).isLt
  have ht : t.val % 4 < 4 := Nat.mod_lt _ (by decide)
  obtain ⟨i, r, e1⟩ : ∃ (i : Fin 8) (r : Fin 256), (y 1).val = 256 * i.val + r.val :=
    ⟨⟨(y 1).val / 256, by omega⟩, ⟨(y 1).val % 256, by omega⟩, by show (y 1).val = 256 * ((y 1).val / 256) + (y 1).val % 256; omega⟩
  obtain ⟨a, l, e2⟩ : ∃ (a : Fin 2) (l : Fin 128), (y 2).val = 128 * a.val + l.val :=
    ⟨⟨(y 2).val / 128, by omega⟩, ⟨(y 2).val % 128, by omega⟩, by show (y 2).val = 128 * ((y 2).val / 128) + (y 2).val % 128; omega⟩
  have hh : 2 * (t.val % 4) + a.val < 8 := by omega
  rw [out_all, bias0_eq, lam_point, funext fun l => read_sub m c t l]
  rw [blockOut_at y i a r l e1 e2]
  rw [result_at _ _ _ _ _ _ _ _ _ z (batch t) ⟨(y 1).val, hy1⟩ ⟨2 * (t.val % 4) + a.val, hh⟩ l z0 z1
    (by show (z 2).val = 128 * (2 * (t.val % 4) + a.val) + l.val; omega)]
  rw [hlam]
  have key := row_eq r0 r1 r2 r3 (m ((c : Thread nD τ).loc main_arg4)) (m ((c : Thread nD τ).loc main_arg5))
      (m ((c : Thread nD τ).loc main_arg6)) (m ((c : Thread nD τ).loc main_arg7)) lam hlam (fun l => m ((c : Thread nD τ).loc main_arg8) (ix1 l))
      (batch t) ⟨2 * (t.val % 4) + a.val, hh⟩ i a r ⟨(y 1).val, hy1⟩ e1 l (iblk m c 1 t) (iblk m c 2 t) (iblk m c 3 t)
      (fun p d => (read_q m c t p _ ⟨128 * (2 * (t.val % 4) + a.val) + d.val, by omega⟩ (by show 128 * (2 * (t.val % 4) + a.val) + d.val = 256 * (t.val % 4) + (128 * a.val + d.val); omega)).trans (congrFun h1 _))
      (fun d k => (read_k m c t _ k ⟨128 * (2 * (t.val % 4) + a.val) + d.val, by omega⟩ (by show 128 * (2 * (t.val % 4) + a.val) + d.val = 256 * (t.val % 4) + (128 * a.val + d.val); omega)).trans (congrFun h2 _))
      (fun k d => (read_v m c t k _ ⟨128 * (2 * (t.val % 4) + a.val) + d.val, by omega⟩ (by show 128 * (2 * (t.val % 4) + a.val) + d.val = 256 * (t.val % 4) + (128 * a.val + d.val); omega)).trans (congrFun h3 _))
  rw [h0, h1, h2, h3]
  exact key

/-- The kernel's result array is the reference's result, where the inputs are real. -/
theorem array_eq (c : Dev nD) (r0 : Cert.ReferenceIdeal.S32x8.Idx → ℝ) (r1 : Cert.ReferenceIdeal.S8x2048x1024.Idx → ℝ)
    (r2 : Cert.ReferenceIdeal.S8x1024x2048.Idx → ℝ) (r3 : Cert.ReferenceIdeal.S8x2048x1024.Idx → ℝ) (lam : ℝ)
    (h0 : m ((c : Thread nD τ).loc main_arg0) = fun i => ((r0 i : ℝ) : EReal))
    (h1 : m ((c : Thread nD τ).loc main_arg1) = fun i => ((r1 i : ℝ) : EReal))
    (h2 : m ((c : Thread nD τ).loc main_arg2) = fun i => ((r2 i : ℝ) : EReal))
    (h3 : m ((c : Thread nD τ).loc main_arg3) = fun i => ((r3 i : ℝ) : EReal))
    (hlam : lamOf (fun d => m ((c : Thread nD τ).loc main_arg4) (ix1 d)) (fun d => m ((c : Thread nD τ).loc main_arg5) (ix1 d))
        (fun d => m ((c : Thread nD τ).loc main_arg6) (ix1 d)) (fun d => m ((c : Thread nD τ).loc main_arg7) (ix1 d)) = ((lam : ℝ) : EReal)) :
    (dats m 0 c).arrAt 6 cfg0.N = val_main_v95 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  refine (dats m 0 c).arrAt_eq_of_covers 6 _ (by decide +kernel) fun t hf y => ?_
  blk_simp
  rw [after0_6]
  refine block_eq m c t r0 r1 r2 r3 lam h0 h1 h2 h3 hlam y _ ?_ ?_ ?_
  all_goals blk_simp [idx_all t]
  all_goals idx_bounds
  all_goals omega

end Cert.Attn

end
-- ==== Proof.Attn.Finite.lean ====
/- The precondition in plain words: the named inputs are real numbers. -/
module

public import proofs.«01_k».proof.Defs
public import proofs.«01_k».proof.Proof.Attn.RefRead
public import proofs.«01_k».proof.Proof.Attn.SoftMean

@[expose] public section

set_option maxRecDepth 16384

noncomputable section

namespace Cert.Attn

open Idealize.ShloMosaic Idealize.SL.Sem

/-- The shape relations the precondition's operations take. -/
instance preFacts : Cert.Pre_finite.Facts where
  bcast_S_S32x8 := by decide
  bitsLt_bf16_f32 := by decide
  bcast_S_S8x2048x1024 := by decide
  bcast_S_S8x1024x2048 := by decide
  bcast_S_S64 := by decide

/-- The word of +∞. -/
theorem top_word : Ideal.ofBits .f32 0x7F800000#32 = (⊤ : EReal) := by simp [Ideal.ofBits, Ideal.ieee]

/-- An array whose absolute values compare below +∞ is an array of reals. -/
theorem real_of_finite {ι : Type} (x : ι → EReal)
    (h : ∀ i, Ideal.cmp .olt (max (x i) (-(x i))) (Ideal.ofBits .f32 0x7F800000#32) = 1#1) : ∃ r : ι → ℝ, x = fun i => ((r i : ℝ) : EReal) := by
  refine ⟨fun i => (x i).toReal, funext fun i => ?_⟩
  have hi : max (x i) (-(x i)) < ⊤ := by
    have e := h i
    rw [top_word] at e
    by_contra hn
    have : Ideal.cmp .olt (max (x i) (-(x i))) ⊤ = 0#1 := by simp [Ideal.cmp, hn]
    rw [this] at e
    exact absurd e (by decide)
  refine (EReal.coe_toReal (lt_of_le_of_lt (le_max_left _ _) hi).ne fun hb => ?_).symm
  rw [hb] at hi
  simp at hi

/-- On real vectors the weight of the second half is real. -/
theorem lam_real (l0 l1 l2 l3 : Fin 64 → ℝ) :
    ∃ lam : ℝ, lamOf (fun d => ((l0 d : ℝ) : EReal)) (fun d => ((l1 d : ℝ) : EReal)) (fun d => ((l2 d : ℝ) : EReal)) (fun d => ((l3 d : ℝ) : EReal)) = ((lam : ℝ) : EReal) := by
  obtain ⟨w, hw⟩ : ∃ w : ℝ, Ideal.ofBits .f32 0x3EF1014C#32 = ((w : ℝ) : EReal) := ⟨15794508 * (2 ^ 25)⁻¹, by
    simp [Ideal.ofBits, Ideal.ieee]⟩
  refine ⟨(Real.exp (∑ d, l0 d * l1 d) - Real.exp (∑ d, l2 d * l3 d)) + w, ?_⟩
  unfold lamOf
  rw [hw]
  simp only [← EReal.coe_mul, coe_sum]
  rfl

/-- What the precondition says of a device's inputs. -/
theorem pre_real (m : (ℓ : Loc Cert.KernelIdeal.nD Cert.KernelIdeal.τ Cert.KernelIdeal.sig) → Buf (Elt Ideal) ℓ) (h : Cert.Pre_KernelIdeal_finite m)
    (c : Dev Cert.KernelIdeal.nD) :
    (∃ r : Cert.ReferenceIdeal.S32x8.Idx → ℝ, m ((c.tc : Thread Cert.KernelIdeal.nD Cert.KernelIdeal.τ).loc Cert.KernelIdeal.main_arg0) = fun i => ((r i : ℝ) : EReal))
    ∧ (∃ r : Cert.ReferenceIdeal.S8x2048x1024.Idx → ℝ, m ((c.tc : Thread Cert.KernelIdeal.nD Cert.KernelIdeal.τ).loc Cert.KernelIdeal.main_arg1) = fun i => ((r i : ℝ) : EReal))
    ∧ (∃ r : Cert.ReferenceIdeal.S8x1024x2048.Idx → ℝ, m ((c.tc : Thread Cert.KernelIdeal.nD Cert.KernelIdeal.τ).loc Cert.KernelIdeal.main_arg2) = fun i => ((r i : ℝ) : EReal))
    ∧ (∃ r : Cert.ReferenceIdeal.S8x2048x1024.Idx → ℝ, m ((c.tc : Thread Cert.KernelIdeal.nD Cert.KernelIdeal.τ).loc Cert.KernelIdeal.main_arg3) = fun i => ((r i : ℝ) : EReal))
    ∧ (∃ r : Cert.ReferenceIdeal.S64.Idx → ℝ, m ((c.tc : Thread Cert.KernelIdeal.nD Cert.KernelIdeal.τ).loc Cert.KernelIdeal.main_arg4) = fun i => ((r i : ℝ) : EReal))
    ∧ (∃ r : Cert.ReferenceIdeal.S64.Idx → ℝ, m ((c.tc : Thread Cert.KernelIdeal.nD Cert.KernelIdeal.τ).loc Cert.KernelIdeal.main_arg5) = fun i => ((r i : ℝ) : EReal))
    ∧ (∃ r : Cert.ReferenceIdeal.S64.Idx → ℝ, m ((c.tc : Thread Cert.KernelIdeal.nD Cert.KernelIdeal.τ).loc Cert.KernelIdeal.main_arg6) = fun i => ((r i : ℝ) : EReal))
    ∧ (∃ r : Cert.ReferenceIdeal.S64.Idx → ℝ, m ((c.tc : Thread Cert.KernelIdeal.nD Cert.KernelIdeal.τ).loc Cert.KernelIdeal.main_arg7) = fun i => ((r i : ℝ) : EReal)) := by
  obtain ⟨h0, h1, h2, h3, h4, h5, h6, h7⟩ := h c
  exact ⟨real_of_finite _ fun i => congrFun h0 i, real_of_finite _ fun i => congrFun h1 i, real_of_finite _ fun i => congrFun h2 i,
    real_of_finite _ fun i => congrFun h3 i, real_of_finite _ fun i => congrFun h4 i, real_of_finite _ fun i => congrFun h5 i,
    real_of_finite _ fun i => congrFun h6 i, real_of_finite _ fun i => congrFun h7 i⟩

end Cert.Attn

end
-- ==== Proof.Ffn.Row.lean ====
/- One row of the output projection and the feed-forward part: the formula that kernel and reference share. -/
module

public import proofs.«01_k».proof.Proof.Gen.Kernel2Ideal
public import Idealize.ShloMosaic.Lib.Pipeline.Value
public import Idealize.ShloMosaic.Lib.Pointwise
public import Idealize.ShloMosaic.Lib.MatmulPlain
public import Idealize.ShloMosaic.Lib.ValueIdx
public import Idealize.ShloMosaic.Lib.Pipeline.ValueKit.Acc

@[expose] public section

set_option maxRecDepth 16384

noncomputable section

namespace Cert.Ffn

open Idealize.ShloMosaic
open scoped BigOperators

/-- The residual row plus the projected attention row. -/
def mid (x o : Fin 1024 → EReal) (wo : Fin 1024 → Fin 1024 → EReal) (l : Fin 1024) : EReal := x l + ∑ d, o d * wo d l

/-- A row over its root mean square, scaled. -/
def normed (y g : Fin 1024 → EReal) (l : Fin 1024) : EReal :=
  (y l * Ideal.rsqrt (Ideal.div (∑ k, y k * y k) (Ideal.ofBits .f32 0x44800000#32) + Ideal.ofBits .f32 0x358637BD#32)) * g l

/-- The square of the positive part. -/
def act (a : EReal) : EReal := max a 0 * max a 0

/-- A hidden unit: the activation of the row's product with the unit's column. -/
def unit (h w : Fin 1024 → EReal) : EReal := act (∑ d, h d * w d)

/-- The row after the feed-forward part of `n` hidden units. -/
def outRow (y g : Fin 1024 → EReal) (wi : Fin 1024 → Fin 4096 → EReal) (wo : Fin 4096 → Fin 1024 → EReal) (l : Fin 1024) : EReal :=
  y l + ∑ f : Fin 4096, unit (normed y g) (fun d => wi d f) * wo f l

/-- Unit `f` of chunk `c`. -/
def col (c : Fin 4) (f : Fin 1024) : Fin 4096 := ⟨c.val * 1024 + f.val, by omega⟩

/-- Four chunks of 1024 units add up to the whole. -/
theorem chunks (u : Fin 4096 → EReal) (y : EReal) :
    (((y + ∑ f, u (col 0 f)) + ∑ f, u (col 1 f)) + ∑ f, u (col 2 f)) + ∑ f, u (col 3 f) = y + ∑ f, u f := by
  rw [← Fin.sum_mul_add_fin 4 1024 u rfl, Fin.sum_univ_four]
  simp only [add_assoc]
  rfl

theorem zero_word : Ideal.ofBits .f32 0x00000000#32 = (0 : EReal) := by simp [Ideal.ofBits, Ideal.ieee]

end Cert.Ffn

end
-- ==== Proof.Ffn.KernelRow.lean ====
/- What one grid point of the kernel computes: each row of its output block is the formula of Row.lean. -/
module

public import proofs.«01_k».proof.Proof.Ffn.Row
public import proofs.«01_k».proof.Proof.Gen.Kernel2Ideal.Value

@[expose] public section

set_option maxRecDepth 16384

noncomputable section

namespace Cert.Ffn

open Cert.Kernel2Ideal Cert.Kernel2Ideal.Gen Idealize.ShloMosaic Idealize.ShloMosaic.TcCoe Idealize.SL.Sem
open scoped BigOperators

/-- A product of two 1024 × 1024 blocks at an element. -/
theorem mm_at (a b : FVec Ideal S1024x1024 .bf16) (r l : Fin 1024) :
    matmul (F := Ideal) dot_S1024x1024_S1024x1024_S1024x1024_1_0_0_1_n_n none a b (constant S1024x1024 .f32 0x00000000#32) (ix2 r l)
      = ∑ d : Fin 1024, (a (ix2 r d) : EReal) * (b (ix2 d l) : EReal) := by
  refine (Ideal.matmul_plain_apply _ _ _ _ r l).trans ?_
  rw [show constant (F := Ideal) S1024x1024 .f32 0x00000000#32 (ValueIdx.ix2 r l) = 0 from by pointwise, zero_add]
  rfl

/-- The residual block plus the projection. -/
theorem pay2_at (v0 : Vec Ideal S1024x1024 .f32) (v1 v2 : Vec Ideal S1024x1024 .bf16) (r l : Fin 1024) :
    k0_pay2 (F := Ideal) v0 v1 v2 (ix2 r l) = mid (fun d => v0 (ix2 r d)) (fun d => v1 (ix2 r d)) (fun d l => v2 (ix2 d l)) l :=
  congrArg ((v0 (ix2 r l) : EReal) + ·) (mm_at v1 v2 r l)

/-- The normed block. -/
theorem pay3_at (v0 : Vec Ideal S1024x1024 .f32) (v1 v2 : Vec Ideal S1024x1024 .bf16) (v5 : Vec Ideal S1x1024 .f32) (r l : Fin 1024) :
    k0_pay3 (F := Ideal) v0 v1 v2 v5 (ix2 r l) = normed (fun k => k0_pay2 (F := Ideal) v0 v1 v2 (ix2 r k)) (fun k => v5 (ix2 0 k)) l := by
  unfold k0_pay3
  generalize k0_pay2 (F := Ideal) v0 v1 v2 = y
  pointwise
  rfl

/-- The activation of a product, cast for the next product. -/
def hid (h w : FVec Ideal S1024x1024 .bf16) : FVec Ideal S1024x1024 .bf16 :=
  let a := maximumf (matmul dot_S1024x1024_S1024x1024_S1024x1024_1_0_0_1_n_n none h w (constant S1024x1024 .f32 0x00000000#32))
    (broadcast S1024x1024 (Scalar.ofBits .f32 0x00000000#32))
  truncf .bf16 (mulf a a) bitsLt_bf16_f32

/-- A hidden unit of a row. -/
theorem hid_at (h w : FVec Ideal S1024x1024 .bf16) (r f : Fin 1024) :
    (hid h w (ix2 r f) : EReal) = unit (fun d => h (ix2 r d)) (fun d => w (ix2 d f)) := by
  have e := mm_at h w r f
  show max (matmul (F := Ideal) dot_S1024x1024_S1024x1024_S1024x1024_1_0_0_1_n_n none h w (constant S1024x1024 .f32 0x00000000#32) (ix2 r f)) (Ideal.ofBits .f32 0x00000000#32)
    * max (matmul (F := Ideal) dot_S1024x1024_S1024x1024_S1024x1024_1_0_0_1_n_n none h w (constant S1024x1024 .f32 0x00000000#32) (ix2 r f)) (Ideal.ofBits .f32 0x00000000#32) = _
  rw [e, zero_word]
  rfl

/-- One chunk's contribution to a row. -/
def part (h : Fin 1024 → EReal) (w u : FVec Ideal S1024x1024 .bf16) (l : Fin 1024) : EReal :=
  ∑ f : Fin 1024, unit h (fun d => w (ix2 d f)) * u (ix2 f l)

theorem part_at (h w u : FVec Ideal S1024x1024 .bf16) (r l : Fin 1024) :
    matmul (F := Ideal) dot_S1024x1024_S1024x1024_S1024x1024_1_0_0_1_n_n none (hid h w) u (constant S1024x1024 .f32 0x00000000#32) (ix2 r l)
      = part (fun d => h (ix2 r d)) w u l := by
  refine (mm_at _ _ r l).trans (Finset.sum_congr rfl fun f _ => ?_)
  rw [hid_at]

/-- The stored block: the residual and four chunks. -/
theorem stored_at (v0 : Vec Ideal S1024x1024 .f32) (v1 v2 : Vec Ideal S1024x1024 .bf16) (v5 : Vec Ideal S1x1024 .f32)
    (w0 u0 w1 u1 w2 u2 w3 u3 : Vec Ideal S1024x1024 .bf16) (r l : Fin 1024) (h : Fin 1024 → EReal)
    (hh : ∀ d, k0_pay3 (F := Ideal) v0 v1 v2 v5 (ix2 r d) = h d) :
    k0_pay1 (F := Ideal) (k0_pay3 v0 v1 v2 v5) (k0_pay4 v0 v1 v2 v5 w0 u0) (k0_pay5 v0 v1 v2 v5 w1) u1 w2 u2 w3 u3 (ix2 r l)
      = (((k0_pay2 (F := Ideal) v0 v1 v2 (ix2 r l) + part h w0 u0 l) + part h w1 u1 l) + part h w2 u2 l) + part h w3 u3 l := by
  obtain rfl : h = fun d => k0_pay3 (F := Ideal) v0 v1 v2 v5 (ix2 r d) := funext fun d => (hh d).symm
  rw [← part_at, ← part_at, ← part_at, ← part_at]
  rfl

end Cert.Ffn

end
-- ==== Proof.Ffn.RefRow.lean ====
/- The reference's result at an element is the formula of Row.lean. -/
module

public import proofs.«01_k».proof.Proof.Ffn.Row
public import proofs.«01_k».proof.Proof.Gen.Reference2Ideal.Read

@[expose] public section

set_option maxRecDepth 16384

noncomputable section

namespace Cert.Ffn

open Cert.Reference2Ideal Cert.Reference2Ideal.Gen Cert.Reference2Ideal.Read Idealize.ShloMosaic Idealize.ShloMosaic.TcCoe Idealize.SL.Sem
open scoped BigOperators

variable (x0 : (⟨S16384x1024, .f32⟩ : BufTy).Contents (Elt Ideal)) (x1 : (⟨S16384x1024, .bf16⟩ : BufTy).Contents (Elt Ideal))
  (x2 : (⟨S1024x1024, .bf16⟩ : BufTy).Contents (Elt Ideal)) (x3 : (⟨S1024, .f32⟩ : BufTy).Contents (Elt Ideal))
  (x4 : (⟨S1024x4096, .bf16⟩ : BufTy).Contents (Elt Ideal)) (x5 : (⟨S4096x1024, .bf16⟩ : BufTy).Contents (Elt Ideal))

/-- Row `p` of the residual stream after the projection. -/
def midAt (p : Fin 16384) : Fin 1024 → EReal :=
  mid (fun d => x0 (ix2 p d)) (fun d => x1 (ix2 p d)) (fun d l => x2 (ix2 d l))

theorem mid_at (p : Fin 16384) (l : Fin 1024) : val_main_v3 (F := Ideal) x0 x1 x2 (ix2 p l) = midAt x0 x1 x2 p l := by
  rw [val_main_v3_apply, val_main_v2_apply]
  refine congrArg ((x0 (ix2 p l) : EReal) + ·) (Finset.sum_congr rfl fun d _ => ?_)
  have el : lidx_main_v2 (ix2 p l) d = ix2 p d := funext fun a => Fin.ext (by match a with | ⟨0, _⟩ => rfl | ⟨1, _⟩ => rfl)
  have er : ridx_main_v2 (ix2 p l) d = ix2 d l := funext fun a => Fin.ext (by match a with | ⟨0, _⟩ => rfl | ⟨1, _⟩ => rfl)
  rw [el, er]
  rfl

/-- The normed row. -/
theorem normed_at (p : Fin 16384) (l : Fin 1024) :
    val_main_v16 (F := Ideal) x0 x1 x2 x3 (ix2 p l) = normed (midAt x0 x1 x2 p) (fun k => x3 (ix1 k)) l := by
  rw [val_main_v16_apply, val_main_v15_apply, val_main_v14_apply, val_main_v13_apply, val_main_v12_apply, val_main_v11_apply, val_main_v10_apply,
    val_main_v9_apply, val_main_cst_1_apply, val_main_v8_apply, val_main_v7_apply, val_main_cst_0_apply, val_main_v6_apply, val_main_v5_apply,
    val_main_cst_apply, mid_at]
  have eg : idx_main_v14 (idx_main_v15 (ix2 p l)) = ix1 l := funext fun a => Fin.ext (by match a with | ⟨0, _⟩ => rfl)
  have es : (∑ k : Fin 1024, val_main_v4 (F := Ideal) x0 x1 x2 (idx_main_v5 (idx_main_v6 (idx_main_v12 (ix2 p l))) k))
      = ∑ k : Fin 1024, midAt x0 x1 x2 p k * midAt x0 x1 x2 p k :=
    Finset.sum_congr rfl fun k _ => by
      have ek : idx_main_v5 (idx_main_v6 (idx_main_v12 (ix2 p l))) k = ix2 p k :=
        funext fun a => Fin.ext (by match a with | ⟨0, _⟩ => rfl | ⟨1, _⟩ => rfl)
      rw [val_main_v4_apply, ek, mid_at]
      rfl
  rw [eg, es]
  have hz : (FloatOps.ofBits .f32 0x00000000#32 : Ideal .f32) = (0 : EReal) := zero_word
  rw [hz, zero_add]
  rfl

/-- A hidden unit of a row. -/
theorem unit_at (p : Fin 16384) (f : Fin 4096) : val_main_v20 (F := Ideal) x0 x1 x2 x3 x4 (ix2 p f)
    = unit (normed (midAt x0 x1 x2 p) (fun k => x3 (ix1 k))) (fun d => x4 (ix2 d f)) := by
  rw [val_main_v20_apply, val_main_v19_apply, val_main_call0_v0_apply, val_main_call0_cst_apply, val_main_v18_apply]
  have es : (∑ k : Fin 1024, val_main_v16 (F := Ideal) x0 x1 x2 x3 (lidx_main_v18 (ix2 p f) k) * val_main_v17 (F := Ideal) x4 (ridx_main_v18 (ix2 p f) k))
      = ∑ d : Fin 1024, normed (midAt x0 x1 x2 p) (fun k => x3 (ix1 k)) d * x4 (ix2 d f) :=
    Finset.sum_congr rfl fun d _ => by
      have el : lidx_main_v18 (ix2 p f) d = ix2 p d := funext fun a => Fin.ext (by match a with | ⟨0, _⟩ => rfl | ⟨1, _⟩ => rfl)
      have er : ridx_main_v18 (ix2 p f) d = ix2 d f := funext fun a => Fin.ext (by match a with | ⟨0, _⟩ => rfl | ⟨1, _⟩ => rfl)
      rw [el, er, normed_at]
      rfl
  rw [es]
  have hz : (FloatOps.ofBits .f32 0x00000000#32 : Ideal .f32) = (0 : EReal) := zero_word
  rw [hz]
  rfl

/-- The reference's result at row `p` and lane `l`. -/
theorem result_at (p : Fin 16384) (l : Fin 1024) : val_main_v23 (F := Ideal) x0 x1 x2 x3 x4 x5 (ix2 p l)
    = outRow (midAt x0 x1 x2 p) (fun k => x3 (ix1 k)) (fun d f => x4 (ix2 d f)) (fun f l => x5 (ix2 f l)) l := by
  rw [val_main_v23_apply, val_main_v22_apply, mid_at]
  refine congrArg (midAt x0 x1 x2 p l + ·) (Finset.sum_congr rfl fun f _ => ?_)
  have el : lidx_main_v22 (ix2 p l) f = ix2 p f := funext fun a => Fin.ext (by match a with | ⟨0, _⟩ => rfl | ⟨1, _⟩ => rfl)
  have er : ridx_main_v22 (ix2 p l) f = ix2 f l := funext fun a => Fin.ext (by match a with | ⟨0, _⟩ => rfl | ⟨1, _⟩ => rfl)
  rw [el, er, unit_at]
  rfl

end Cert.Ffn

end
-- ==== Proof.Ffn.Value.lean ====
/- The kernel's result array is the reference's result. -/
module

public import proofs.«01_k».proof.Proof.Ffn.KernelRow
public import proofs.«01_k».proof.Proof.Ffn.RefRow
public import Idealize.ShloMosaic.Lib.Pipeline.ValueKit

@[expose] public section

set_option maxRecDepth 16384

noncomputable section

namespace Cert.Ffn

open Cert.Kernel2Ideal Cert.Kernel2Ideal.Gen Idealize.ShloMosaic Idealize.ShloMosaic.TcCoe Idealize.SL.Sem
open Cert.Reference2Ideal.Read (val_main_v23)
open scoped BigOperators

/-- The first weight's columns of chunk `c`. -/
theorem ld_in (X : Vec Ideal S1024x4096 .bf16) (c : Fin 4) (o : ℕ) (ho : o = c.val * 1024) (h) (d f : Fin 1024) :
    (View.ld X (Rect.unit (s := S1024x4096) ![0, o] S1024x1024.size h) (ix2 (n0 := 1024) (n1 := 1024) d f) : EReal) = X (ix2 d (col c f)) := by
  subst ho
  exact View.ld_unit_apply_of _ _ _ _ _ _ (by intro b; fin_cases b <;> simp [ix2, col])

/-- The second weight's rows of chunk `c`. -/
theorem ld_out (X : Vec Ideal S4096x1024 .bf16) (c : Fin 4) (o : ℕ) (ho : o = c.val * 1024) (h) (f l : Fin 1024) :
    (View.ld X (Rect.unit (s := S4096x1024) ![o, 0] S1024x1024.size h) (ix2 (n0 := 1024) (n1 := 1024) f l) : EReal) = X (ix2 (col c f) l) := by
  subst ho
  exact View.ld_unit_apply_of _ _ _ _ _ _ (by intro b; fin_cases b <;> simp [ix2, col])

/-- A chunk's contribution from the whole weights. -/
theorem part_ld (h : Fin 1024 → EReal) (X : Vec Ideal S1024x4096 .bf16) (Y : Vec Ideal S4096x1024 .bf16) (c : Fin 4) (o : ℕ) (ho : o = c.val * 1024) (h1) (h2)
    (l : Fin 1024) :
    part h (View.ld X (Rect.unit (s := S1024x4096) ![0, o] S1024x1024.size h1)) (View.ld Y (Rect.unit (s := S4096x1024) ![o, 0] S1024x1024.size h2)) l
      = ∑ f : Fin 1024, unit h (fun d => X (ix2 d (col c f))) * Y (ix2 (col c f) l) := by
  unfold part
  refine Finset.sum_congr rfl fun f _ => ?_
  rw [ld_out Y c o ho h2 f l, funext fun d => ld_in X c o ho h1 d f]

/-- A point's output block from its input blocks. -/
theorem out_at (x0 : Vec Ideal S1024x1024 .f32) (x1 x2 : Vec Ideal S1024x1024 .bf16) (x3 : Vec Ideal S1x1024 .f32) (x4 : Vec Ideal S1024x4096 .bf16)
    (x5 : Vec Ideal S4096x1024 .bf16) (r l : Fin 1024) :
    out0_6 (F := Ideal) x0 x1 x2 x3 x4 x5 (ix2 r l)
      = outRow (mid (fun d => x0 (ix2 r d)) (fun d => x1 (ix2 r d)) (fun d l => x2 (ix2 d l))) (fun k => x3 (ix2 0 k)) (fun d f => x4 (ix2 d f))
          (fun f l => x5 (ix2 f l)) l := by
  have z2 : (![0, 0] : Fin 2 → ℕ) = fun _ => 0 := by funext a; fin_cases a <;> rfl
  unfold out0_6
  rw [View.canon_unit_zero z2, View.ld_unit_zero z2, View.ld_unit_zero z2, View.ld_unit_zero z2, View.ld_unit_zero z2]
  have hm : (fun k => k0_pay2 (F := Ideal) x0 x1 x2 (ix2 r k)) = mid (fun d => x0 (ix2 r d)) (fun d => x1 (ix2 r d)) (fun d l => x2 (ix2 d l)) :=
    funext fun k => pay2_at x0 x1 x2 r k
  refine (stored_at x0 x1 x2 x3 _ _ _ _ _ _ _ _ r l _ fun d => (pay3_at x0 x1 x2 x3 r d).trans (by rw [hm])).trans ?_
  rw [pay2_at, part_ld _ x4 x5 0 0 rfl, part_ld _ x4 x5 1 1024 rfl, part_ld _ x4 x5 2 2048 rfl, part_ld _ x4 x5 3 3072 rfl]
  exact chunks (fun f => unit (normed _ _) (fun d => x4 (ix2 d f)) * x5 (ix2 f l)) _

variable (m : (ℓ : Loc nD τ sig) → Buf (Elt Ideal) ℓ)

/-- The block indices of the seven windows at every grid point. -/
theorem idx_all : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- Row `r` of a grid point's block, in the whole array. -/
def row (t : Fin cfg0.N) (r : Fin 1024) : Fin 16384 := ⟨1024 * t.val + r.val, by have h : t.val < 16 := lt_of_lt_of_eq t.isLt N_0; omega⟩

theorem read_x (c : Dev nD) (t : Fin cfg0.N) (r d : Fin 1024) :
    iblk m c 0 t (ix2 r d) = m ((c : Thread nD τ).loc main_arg0) (ix2 (row t r) d) := by
  have hb : (row t r).val = 1024 * t.val + r.val := rfl
  blk_ext! [iblk, V, idx_all t]

theorem read_o (c : Dev nD) (t : Fin cfg0.N) (r d : Fin 1024) :
    iblk m c 1 t (ix2 r d) = m ((c : Thread nD τ).loc main_arg1) (ix2 (row t r) d) := by
  have hb : (row t r).val = 1024 * t.val + r.val := rfl
  blk_ext! [iblk, V, idx_all t]

theorem read_wo (c : Dev nD) (t : Fin cfg0.N) (d l : Fin 1024) :
    iblk m c 2 t (ix2 d l) = m ((c : Thread nD τ).loc main_arg2) (ix2 d l) := by
  blk_ext! [iblk, V, idx_all t]

theorem read_g (c : Dev nD) (t : Fin cfg0.N) (k : Fin 1024) :
    iblk m c 3 t (ix2 0 k) = m ((c : Thread nD τ).loc main_arg3) (ix1 k) := by
  blk_ext! [iblk, V, idx_all t]

theorem read_win (c : Dev nD) (t : Fin cfg0.N) (d : Fin 1024) (f : Fin 4096) :
    iblk m c 4 t (ix2 d f) = m ((c : Thread nD τ).loc main_arg4) (ix2 d f) := by
  blk_ext! [iblk, V, idx_all t]

theorem read_wout (c : Dev nD) (t : Fin cfg0.N) (f : Fin 4096) (l : Fin 1024) :
    iblk m c 5 t (ix2 f l) = m ((c : Thread nD τ).loc main_arg5) (ix2 f l) := by
  blk_ext! [iblk, V, idx_all t]

/-- An element of a point's output block is the reference's element. -/
theorem block_eq (c : Dev nD) (t : Fin cfg0.N) (r l : Fin 1024) :
    out0_6 (F := Ideal) (iblk m c 0 t) (iblk m c 1 t) (iblk m c 2 t) (iblk m c 3 t) (iblk m c 4 t) (iblk m c 5 t) (ix2 r l)
      = val_main_v23 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 (row t r) l) := by
  rw [out_at, result_at, midAt]
  rw [funext fun d => read_x m c t r d, funext fun d => read_o m c t r d, funext fun d => funext fun l => read_wo m c t d l,
    funext fun k => read_g m c t k, funext fun d => funext fun f => read_win m c t d f, funext fun f => funext fun l => read_wout m c t f l]

/-- The kernel's result array is the reference's result. -/
theorem array_eq (c : Dev nD) : (dats m 0 c).arrAt 6 cfg0.N
    = val_main_v23 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have hy : y = ix2 (n0 := 1024) (n1 := 1024) ⟨(y 0).val, (y 0).isLt⟩ ⟨(y 1).val, (y 1).isLt⟩ := by
    funext a; match a with | ⟨0, _⟩ => rfl | ⟨1, _⟩ => rfl
  rw [hy]
  refine (block_eq m c t _ _).trans (congrArg _ ?_)
  blk_ext [idx_all t, row]

end Cert.Ffn

end
-- ==== Proof.Qkv.Row.lean ====
/- The formulas of the projections that kernel and reference share, one row at a time, and the sum of squares over a head. -/
module

public import proofs.«01_k».proof.Proof.Ffn.Row

@[expose] public section

set_option maxRecDepth 16384

noncomputable section

namespace Cert.Qkv

open Idealize.ShloMosaic
open Cert.Ffn (normed zero_word)
open scoped BigOperators

/-- Lane `e` of the head that holds lane `l`. -/
def lane (l : Fin 1024) (e : Fin 64) : Fin 1024 := ⟨l.val / 64 * 64 + e.val, by omega⟩

/-- The place of lane `l` in its head. -/
def pos (l : Fin 1024) : Fin 64 := ⟨l.val % 64, by omega⟩

/-- A row times a matrix. -/
def proj {n : ℕ} (h : Fin 1024 → EReal) (w : Fin 1024 → Fin n → EReal) (l : Fin n) : EReal := ∑ d, h d * w d l

/-- The sum of the squares of the head that holds lane `l`. -/
def squares (y : Fin 1024 → EReal) (l : Fin 1024) : EReal := ∑ e : Fin 64, y (lane l e) * y (lane l e)

/-- A row with each head over its root mean square, scaled. -/
def headRow (y : Fin 1024 → EReal) (g : Fin 64 → EReal) (l : Fin 1024) : EReal :=
  (y l * Ideal.rsqrt (Ideal.div (squares y l) (Ideal.ofBits .f32 0x42800000#32) + Ideal.ofBits .f32 0x358637BD#32)) * g (pos l)

theorem sixty_four : Ideal.ofBits .f32 0x42800000#32 = ((64 : ℝ) : EReal) := by
  simp [Ideal.ofBits, Ideal.ieee]
  rw [← EReal.coe_mul]
  norm_num

theorem div_sixty_four (x : EReal) : Ideal.div x (Ideal.ofBits .f32 0x42800000#32) = x * (((64 : ℝ)⁻¹ : ℝ) : EReal) := by
  have h : ((64 : ℝ) : EReal) ≠ 0 := by
    rw [← EReal.coe_zero]
    exact fun h => absurd (EReal.coe_injective h) (by norm_num)
  rw [sixty_four, Ideal.div, if_neg h, EReal.coe_inv]

theorem square_nonneg (x : EReal) : 0 ≤ x * x := by
  induction x with
  | bot => simp
  | top => simp
  | coe r => exact_mod_cast mul_self_nonneg r

/-- A constant factor leaves a sum of terms that are not negative. -/
theorem sum_mul_const {n : ℕ} (s : Fin n → EReal) (hs : ∀ i, 0 ≤ s i) (c : EReal) : ∑ i, s i * c = (∑ i, s i) * c := by
  classical
  refine Finset.induction_on (motive := fun t : Finset (Fin n) => ∑ i ∈ t, s i * c = (∑ i ∈ t, s i) * c) Finset.univ (by simp) fun a t ha ih => ?_
  rw [Finset.sum_insert ha, Finset.sum_insert ha, ih, EReal.right_distrib_of_nonneg (hs a) (Finset.sum_nonneg fun i _ => hs i)]

/-- The entry of the averaging matrix. -/
def share (k j : Fin 256) : EReal := Ideal.div (if k.val / 64 = j.val / 64 then 1 else 0) (Ideal.ofBits .f32 0x42800000#32)

/-- Products with a column of the averaging matrix add up to a 64th of the head's sum. -/
theorem sum_share (s : Fin 256 → EReal) (hs : ∀ k, 0 ≤ s k) (j : Fin 256) :
    ∑ k, s k * share k j = Ideal.div (∑ e : Fin 64, s ⟨j.val / 64 * 64 + e.val, by omega⟩) (Ideal.ofBits .f32 0x42800000#32) := by
  rw [div_sixty_four, ← sum_mul_const _ (fun e => hs _), ← Fin.sum_mul_add_fin 4 64 (fun k => s k * share k j) rfl,
    Finset.sum_eq_single (⟨j.val / 64, by omega⟩ : Fin 4)]
  · refine Finset.sum_congr rfl fun e _ => ?_
    have h : (j.val / 64 * 64 + e.val) / 64 = j.val / 64 := by omega
    simp only [share, div_sixty_four, h, if_true, one_mul]
  · intro a _ ha
    refine Finset.sum_eq_zero fun e _ => ?_
    have h : ¬ (a.val * 64 + e.val) / 64 = j.val / 64 := fun h => ha (Fin.ext (by show a.val = j.val / 64; omega))
    simp only [share, div_sixty_four, h, if_false, zero_mul, mul_zero]
  · exact fun h => absurd (Finset.mem_univ _) h

end Cert.Qkv

end
-- ==== Proof.Qkv.KernelRow.lean ====
/- What one grid point of the kernel computes: each element of its output blocks is the formula of Row.lean. -/
module

public import proofs.«01_k».proof.Proof.Qkv.Row
public import proofs.«01_k».proof.Proof.Gen.Kernel3Ideal.Value
public import Idealize.ShloMosaic.Lib.Pointwise
public import Idealize.ShloMosaic.Lib.MatmulPlain

@[expose] public section

set_option maxRecDepth 16384

noncomputable section

namespace Cert.Qkv

open Cert.Kernel3Ideal Cert.Kernel3Ideal.Gen Idealize.ShloMosaic Idealize.ShloMosaic.TcCoe Idealize.SL.Sem
open Cert.Ffn (normed zero_word)
open scoped BigOperators

/-- A product of two 1024 × 1024 blocks at an element. -/
theorem mm_at (a b : FVec Ideal S1024x1024 .bf16) (r l : Fin 1024) :
    matmul (F := Ideal) dot_S1024x1024_S1024x1024_S1024x1024_1_0_0_1_n_n none a b (constant S1024x1024 .f32 0x00000000#32) (ix2 r l)
      = ∑ d : Fin 1024, (a (ix2 r d) : EReal) * (b (ix2 d l) : EReal) := by
  refine (Ideal.matmul_plain_apply _ _ _ _ r l).trans ?_
  rw [show constant (F := Ideal) S1024x1024 .f32 0x00000000#32 (ValueIdx.ix2 r l) = 0 from by pointwise, zero_add]
  rfl

/-- The query side's normed block. -/
theorem normed_q_at (v12 : Vec Ideal S1x1024x1024 .f32) (v24 : Vec Ideal S1x1024 .f32) (r l : Fin 1024) :
    (k0_pay7 (F := Ideal) v12 v24 (ix2 r l) : EReal) = normed (fun k => v12 (ix3 0 r k)) (fun k => v24 (ix2 0 k)) l := by
  unfold k0_pay7 k0_pay6
  pointwise
  rfl

/-- The normed block of keys and values. -/
theorem normed_kv_at (v12 : Vec Ideal S1x1024x1024 .f32) (v64 : Vec Ideal S1x1024 .f32) (r l : Fin 1024) :
    (k0_pay9 (F := Ideal) (k0_pay6 v12) v64 (ix2 r l) : EReal) = normed (fun k => v12 (ix3 0 r k)) (fun k => v64 (ix2 0 k)) l := by
  unfold k0_pay9 k0_pay6
  pointwise
  rfl

/-- The values. -/
theorem value_at (v12 : Vec Ideal S1x1024x1024 .f32) (v64 : Vec Ideal S1x1024 .f32) (v93 : Vec Ideal S1024x1024 .f32) (r l : Fin 1024) :
    (k0_pay2 (F := Ideal) (k0_pay9 (k0_pay6 v12) v64) v93 (ix3 0 r l) : EReal)
      = proj (normed (fun k => v12 (ix3 0 r k)) (fun k => v64 (ix2 0 k))) (fun d l => v93 (ix2 d l)) l := by
  have e : (k0_pay2 (F := Ideal) (k0_pay9 (k0_pay6 v12) v64) v93 (ix3 0 r l) : EReal)
      = matmul (F := Ideal) dot_S1024x1024_S1024x1024_S1024x1024_1_0_0_1_n_n none (k0_pay9 (k0_pay6 v12) v64)
          (truncf .bf16 (v93 : FVec Ideal S1024x1024 .f32) bitsLt_bf16_f32) (constant S1024x1024 .f32 0x00000000#32) (ix2 r l) := by
    unfold k0_pay2
    generalize k0_pay9 (F := Ideal) (k0_pay6 v12) v64 = h
    generalize matmul (F := Ideal) dot_S1024x1024_S1024x1024_S1024x1024_1_0_0_1_n_n none h
          (truncf .bf16 (v93 : FVec Ideal S1024x1024 .f32) bitsLt_bf16_f32) (constant S1024x1024 .f32 0x00000000#32) = y
    pointwise
  rw [e, mm_at]
  unfold proj
  refine Finset.sum_congr rfl fun d _ => ?_
  rw [normed_kv_at]
  rfl

/-- The keys before the norm of the heads, transposed. -/
def keys (h : FVec Ideal S1024x1024 .bf16) (w : Vec Ideal S1024x1024 .f32) : FVec Ideal S1024x1024 .f32 :=
  matmul dot_S1024x1024_S1024x1024_S1024x1024_0_1_1_0_n_n none (truncf .bf16 (w : FVec Ideal S1024x1024 .f32) bitsLt_bf16_f32) h
    (constant S1024x1024 .f32 0x00000000#32)

theorem keys_at (h : FVec Ideal S1024x1024 .bf16) (w : Vec Ideal S1024x1024 .f32) (l r : Fin 1024) :
    (keys h w (ix2 l r) : EReal) = proj (fun d => h (ix2 r d)) (fun d l => w (ix2 d l)) l := by
  unfold keys proj
  pointwise
  exact Finset.sum_congr rfl fun d _ => mul_comm _ _

theorem keys_row (h : FVec Ideal S1024x1024 .bf16) (v69 : Vec Ideal S1024x1024 .f32) (v83 : Vec Ideal S64x1 .f32) (l r : Fin 1024) :
    (k0_pay1 (F := Ideal) h v69 v83 (ix3 0 l r) : EReal)
      = headRow (fun l => keys h v69 (ix2 l r)) (fun e => v83 (ix2 e 0)) l := by
  unfold k0_pay1
  have ek : matmul (F := Ideal) dot_S1024x1024_S1024x1024_S1024x1024_0_1_1_0_n_n none (truncf .bf16 (v69 : FVec Ideal S1024x1024 .f32) bitsLt_bf16_f32) h
    (constant S1024x1024 .f32 0x00000000#32) = keys h v69 := rfl
  rw [ek]
  generalize keys h v69 = y
  pointwise
  rfl

/-- The queries before the norm of the heads. -/
def queries (h : FVec Ideal S1024x1024 .bf16) (w : Vec Ideal S1x1024x1024 .f32) : FVec Ideal S1024x1024 .f32 :=
  matmul dot_S1024x1024_S1024x1024_S1024x1024_1_0_0_1_n_n none h
    (truncf .bf16 (shapeCast S1024x1024 (w : FVec Ideal S1x1024x1024 .f32) shapeCasts_S1x1024x1024_S1024x1024) bitsLt_bf16_f32)
    (constant S1024x1024 .f32 0x00000000#32)

theorem queries_at (h : FVec Ideal S1024x1024 .bf16) (w : Vec Ideal S1x1024x1024 .f32) (r l : Fin 1024) :
    (queries h w (ix2 r l) : EReal) = proj (fun d => h (ix2 r d)) (fun d l => w (ix3 0 d l)) l := by
  unfold queries proj
  rw [mm_at]
  refine Finset.sum_congr rfl fun d _ => congrArg (_ * ·) ?_
  pointwise

/-- A piece of 256 lanes times the averaging matrix is the mean square of the head. -/
theorem piece (y : Fin 1024 → EReal) (l : Fin 1024) (o : ℕ) (ho : 64 ∣ o) (ρ : Fin 256 → Fin 1024) (hρ : ∀ x, (ρ x).val = o + x.val) (j : Fin 256)
    (hj : l.val = o + j.val) :
    ∑ x, y (ρ x) * y (ρ x) * share x j = Ideal.div (squares y l) (Ideal.ofBits .f32 0x42800000#32) := by
  rw [sum_share (fun x => y (ρ x) * y (ρ x)) (fun x => square_nonneg _) j]
  unfold squares
  refine congrArg (Ideal.div · _) (Finset.sum_congr rfl fun e _ => ?_)
  have h : ρ ⟨j.val / 64 * 64 + e.val, by omega⟩ = lane l e := Fin.ext (by rw [hρ]; show o + (j.val / 64 * 64 + e.val) = l.val / 64 * 64 + e.val; omega)
  simp only [h]

theorem queries_row (h : FVec Ideal S1024x1024 .bf16) (v29 : Vec Ideal S1x1024x1024 .f32) (A : Vec Ideal S256x256 .bf16) (v56 : Vec Ideal S1x1024 .f32)
    (hA : ∀ k j, (A (ix2 k j) : EReal) = share k j) (g : Fin 64 → EReal) (hg : ∀ l, (v56 (ix2 0 l) : EReal) = g (pos l)) (r l : Fin 1024) :
    (k0_pay8 (F := Ideal) h v29 A A A A v56 (ix3 0 r l) : EReal) = headRow (fun l => queries h v29 (ix2 r l)) g l := by
  unfold k0_pay8
  have ek : matmul (F := Ideal) dot_S1024x1024_S1024x1024_S1024x1024_1_0_0_1_n_n none h
    (truncf .bf16 (shapeCast S1024x1024 (v29 : FVec Ideal S1x1024x1024 .f32) shapeCasts_S1x1024x1024_S1024x1024) bitsLt_bf16_f32)
    (constant S1024x1024 .f32 0x00000000#32) = queries h v29 := rfl
  rw [ek]
  generalize queries h v29 = y
  pointwise
  simp only [hA, hg]
  unfold headRow
  have hl := l.isLt
  refine congrArg (fun q : EReal => (y (ix2 r l) * Ideal.rsqrt (q + Ideal.ofBits .f32 0x358637BD#32)) * g (pos l)) ?_
  by_cases h1 : l.val < 256
  · rw [dif_pos h1]
    exact piece (fun l => y (ix2 r l)) l 0 (by decide) (fun x => ⟨x.val, by omega⟩) (fun x => (Nat.zero_add _).symm) ⟨l.val, h1⟩ (Nat.zero_add _).symm
  rw [dif_neg h1]
  by_cases h2 : l.val - 256 < 256
  · rw [dif_pos h2]
    exact piece (fun l => y (ix2 r l)) l 256 (by decide) (fun x => ⟨256 + x.val, by omega⟩) (fun x => rfl) ⟨l.val - 256, h2⟩ (by show l.val = 256 + (l.val - 256); omega)
  rw [dif_neg h2]
  by_cases h3 : l.val - 256 - 256 < 256
  · rw [dif_pos h3]
    exact piece (fun l => y (ix2 r l)) l 512 (by decide) (fun x => ⟨512 + x.val, by omega⟩) (fun x => rfl) ⟨l.val - 256 - 256, h3⟩
      (by show l.val = 512 + (l.val - 256 - 256); omega)
  rw [dif_neg h3]
  exact piece (fun l => y (ix2 r l)) l 768 (by decide) (fun x => ⟨768 + x.val, by omega⟩) (fun x => rfl) ⟨l.val - 256 - 256 - 256, by omega⟩
    (by show l.val = 768 + (l.val - 256 - 256 - 256); omega)

/-- The rounded weights. -/
theorem cast_o_at (v : Vec Ideal S1x64x1024 .f32) (i : Fin 64) (l : Fin 1024) : (k0_pay3 (F := Ideal) v (ix2 i l) : EReal) = v (ix3 0 i l) := by
  unfold k0_pay3
  pointwise

theorem cast_in_at (v : Vec Ideal S1x64x4096 .f32) (i : Fin 64) (l : Fin 4096) : (k0_pay4 (F := Ideal) v (ix2 i l) : EReal) = v (ix3 0 i l) := by
  unfold k0_pay4
  pointwise

theorem cast_out_at (v : Vec Ideal S1x256x1024 .f32) (i : Fin 256) (l : Fin 1024) : (k0_pay5 (F := Ideal) v (ix2 i l) : EReal) = v (ix3 0 i l) := by
  unfold k0_pay5
  pointwise

/-- The stored queries. -/
theorem query_at (v12 : Vec Ideal S1x1024x1024 .f32) (v24 : Vec Ideal S1x1024 .f32) (v29 : Vec Ideal S1x1024x1024 .f32) (A : Vec Ideal S256x256 .bf16)
    (v56 : Vec Ideal S1x1024 .f32) (hA : ∀ k j, (A (ix2 k j) : EReal) = share k j) (g : Fin 64 → EReal)
    (hg : ∀ l, (v56 (ix2 0 l) : EReal) = g (pos l)) (r l : Fin 1024) :
    (k0_pay8 (F := Ideal) (k0_pay7 v12 v24) v29 A A A A v56 (ix3 0 r l) : EReal)
      = headRow (proj (normed (fun k => v12 (ix3 0 r k)) (fun k => v24 (ix2 0 k))) (fun d l => v29 (ix3 0 d l))) g l := by
  rw [queries_row _ v29 A v56 hA g hg r l]
  refine congrArg (headRow · g l) (funext fun l => ?_)
  rw [queries_at]
  exact congrArg (proj · _ l) (funext fun d => normed_q_at v12 v24 r d)

/-- The stored keys. -/
theorem key_at (v12 : Vec Ideal S1x1024x1024 .f32) (v64 : Vec Ideal S1x1024 .f32) (v69 : Vec Ideal S1024x1024 .f32) (v83 : Vec Ideal S64x1 .f32)
    (l r : Fin 1024) :
    (k0_pay1 (F := Ideal) (k0_pay9 (k0_pay6 v12) v64) v69 v83 (ix3 0 l r) : EReal)
      = headRow (proj (normed (fun k => v12 (ix3 0 r k)) (fun k => v64 (ix2 0 k))) (fun d l => v69 (ix2 d l))) (fun e => v83 (ix2 e 0)) l := by
  rw [keys_row]
  refine congrArg (headRow · _ l) (funext fun l => ?_)
  rw [keys_at]
  exact congrArg (proj · _ l) (funext fun d => normed_kv_at v12 v64 r d)

end Cert.Qkv

end
-- ==== Proof.Qkv.Table.lean ====
/- The words of the averaging matrix: a 64th where row and column lie in one head, else zero.

The table is printed as pieces of 128 words, two to a row. Only three different pieces occur. -/
module

public import proofs.«01_k».proof.Kernel3Ideal
public import Mathlib.Tactic.IntervalCases

@[expose] public section

set_option maxRecDepth 16384

noncomputable section

namespace Cert.Qkv

open Cert.Kernel3Ideal

/-- A piece with the head's 64 lanes first. -/
theorem front (i : ℕ) : lit0t0_0 i = if i % 128 < 64 then 0x3C80#16 else 0x0000#16 := by
  have h : i % 128 < 128 := Nat.mod_lt _ (by decide)
  unfold lit0t0_0
  generalize i % 128 = d at h ⊢
  interval_cases d <;> rfl

/-- A piece with the head's 64 lanes last. -/
theorem back (i : ℕ) : lit0t0_128 i = if i % 128 < 64 then 0x0000#16 else 0x3C80#16 := by
  have h : i % 128 < 128 := Nat.mod_lt _ (by decide)
  unfold lit0t0_128
  generalize i % 128 = d at h ⊢
  interval_cases d <;> rfl

/-- A piece without lanes of the head. -/
theorem none_here (i : ℕ) : lit0t0_1 i = 0x0000#16 := by
  have h : i % 128 < 128 := Nat.mod_lt _ (by decide)
  unfold lit0t0_1
  generalize i % 128 = d at h ⊢
  interval_cases d <;> rfl

theorem even_piece (i : ℕ) : i / 128 % 2 = i / 128 % 128 % 2 := by omega

/-- The rows of the first head. -/
theorem rows0 (i : ℕ) : lit0t1_0 i = if i / 128 % 2 = 0 then lit0t0_0 i else lit0t0_1 i := by
  have h : i / 128 % 128 < 128 := Nat.mod_lt _ (by decide)
  rw [even_piece]
  unfold lit0t1_0
  generalize i / 128 % 128 = d at h ⊢
  interval_cases d <;> rfl

/-- The rows of the second head. -/
theorem rows1 (i : ℕ) : lit0t1_1 i = if i / 128 % 2 = 0 then lit0t0_128 i else lit0t0_1 i := by
  have h : i / 128 % 128 < 128 := Nat.mod_lt _ (by decide)
  rw [even_piece]
  unfold lit0t1_1
  generalize i / 128 % 128 = d at h ⊢
  interval_cases d <;> rfl

/-- The rows of the third head. -/
theorem rows2 (i : ℕ) : lit0t1_2 i = if i / 128 % 2 = 0 then lit0t0_1 i else lit0t0_0 i := by
  have h : i / 128 % 128 < 128 := Nat.mod_lt _ (by decide)
  rw [even_piece]
  unfold lit0t1_2
  generalize i / 128 % 128 = d at h ⊢
  interval_cases d <;> rfl

/-- The rows of the fourth head. -/
theorem rows3 (i : ℕ) : lit0t1_3 i = if i / 128 % 2 = 0 then lit0t0_1 i else lit0t0_128 i := by
  have h : i / 128 % 128 < 128 := Nat.mod_lt _ (by decide)
  rw [even_piece]
  unfold lit0t1_3
  generalize i / 128 % 128 = d at h ⊢
  interval_cases d <;> rfl

/-- The table by number: row `i / 256`, column `i % 256`. -/
theorem word_at (i : ℕ) (h : i < 65536) :
    lit0t i = if i / 16384 = i % 256 / 64 then 0x3C80#16 else 0x0000#16 := by
  have ha : i / 16384 < 4 := by omega
  have e : lit0t i = if i / 16384 = 0 then lit0t1_0 i else if i / 16384 = 1 then lit0t1_1 i
      else if i / 16384 = 2 then lit0t1_2 i else lit0t1_3 i := by
    unfold lit0t
    generalize i / 16384 = a at ha ⊢
    interval_cases a <;> rfl
  rw [e, rows0, rows1, rows2, rows3, front, back, none_here]
  split_ifs <;> first | rfl | (exfalso; omega)

/-- The word of a row and a column of the averaging matrix. -/
theorem table_at (k j : Fin 256) :
    lit0 ⟨k.val * 256 + j.val, by omega⟩ = if k.val / 64 = j.val / 64 then 0x3C80#16 else 0x0000#16 := by
  have a : (k.val * 256 + j.val) / 16384 = k.val / 64 := by omega
  have b : (k.val * 256 + j.val) % 256 = j.val := by omega
  have w := word_at (k.val * 256 + j.val) (by omega)
  rw [a, b] at w
  exact w

end Cert.Qkv

end
-- ==== Proof.Qkv.Reads.lean ====
/- What the kernel's input blocks hold at a grid point, in terms of the arguments. -/
module

public import proofs.«01_k».proof.Proof.Qkv.KernelRow
public import proofs.«01_k».proof.Proof.Qkv.Table
public import Idealize.ShloMosaic.Lib.Pipeline.ValueKit
public import Idealize.ShloMosaic.Lib.Pipeline.Value

@[expose] public section

set_option maxRecDepth 16384

noncomputable section

namespace Cert.Qkv

open Cert.Kernel3Ideal Cert.Kernel3Ideal.Gen Idealize.ShloMosaic Idealize.ShloMosaic.TcCoe Idealize.SL.Sem
open Cert.Ffn (normed zero_word)
open scoped BigOperators

variable (m : (ℓ : Loc nD τ sig) → Buf (Elt Ideal) ℓ)

/-- The block indices of the windows at every grid point. -/
theorem idx_all : ∀ t : Fin cfg0.N, win0_0.index t = ![0, t.val, 0] ∧ win0_1.index t = ![2, t.val, 0] ∧ win0_2.index t = ![2, t.val, 0]
    ∧ win0_3.index t = ![t.val / 2, t.val % 2, 0] ∧ win0_4.index t = ![0, 0] ∧ win0_5.index t = ![0, 0, 0] ∧ win0_6.index t = ![0, 0]
    ∧ win0_7.index t = ![0, 0] ∧ win0_8.index t = ![0, 0] ∧ win0_9.index t = ![0, 0] ∧ win0_10.index t = ![0, 0]
    ∧ win0_11.index t = ![t.val / 2, t.val % 2, 0] ∧ win0_12.index t = ![t.val / 2, 0, t.val % 2] ∧ win0_13.index t = ![t.val / 2, t.val % 2, 0]
    ∧ win0_14.index t = ![t.val, 0] ∧ win0_15.index t = ![t.val, 0] ∧ win0_16.index t = ![t.val, 0] :=
  (by decide +kernel : ∀ t : Fin grid0.N, _)

/-- The sequence of a grid point. -/
def seq (t : Fin cfg0.N) : Fin 8 := ⟨t.val / 2, by have h : t.val < 16 := lt_of_lt_of_eq t.isLt N_0; omega⟩

/-- Token `r` of a grid point's block, in its sequence. -/
def token (t : Fin cfg0.N) (r : Fin 1024) : Fin 2048 := ⟨1024 * (t.val % 2) + r.val, by omega⟩

/-- Row `r` of a grid point's block of 64 rows. -/
def row64 (t : Fin cfg0.N) (r : Fin 64) : Fin 1024 := ⟨64 * t.val + r.val, by have h : t.val < 16 := lt_of_lt_of_eq t.isLt N_0; omega⟩

/-- Row `r` of a grid point's block of 256 rows. -/
def row256 (t : Fin cfg0.N) (r : Fin 256) : Fin 4096 := ⟨256 * t.val + r.val, by have h : t.val < 16 := lt_of_lt_of_eq t.isLt N_0; omega⟩

/-- The averaging matrix as the program holds it. -/
theorem avg_entry (c : Dev nD) : V m c main_cst = fun i => FloatOps.ofBits (F := Ideal) .bf16 (lit0 (S256x256.rowMajor i)) := rfl

theorem word_share : Ideal.ofBits .bf16 0x3C80#16 = (((64 : ℝ)⁻¹ : ℝ) : EReal) := by
  simp [Ideal.ofBits, Ideal.ieee]
  rw [← EReal.coe_mul]
  norm_num

theorem word_none : Ideal.ofBits .bf16 0x0000#16 = 0 := by
  simp [Ideal.ofBits, Ideal.ieee]

theorem table_share (k j : Fin 256) : Ideal.ofBits .bf16 (lit0 (S256x256.rowMajor (ix2 k j))) = share k j := by
  have e : lit0 (S256x256.rowMajor (ix2 k j)) = lit0 ⟨k.val * 256 + j.val, by omega⟩ :=
    congrArg lit0t (Shape.rowMajor_val_two (ix2 k j))
  rw [e, table_at]
  unfold share
  rw [div_sixty_four]
  by_cases hk : k.val / 64 = j.val / 64
  · rw [if_pos hk, if_pos hk, word_share, one_mul]
  · rw [if_neg hk, if_neg hk, word_none, zero_mul]

theorem gq_entry (c : Dev nD) : V m c main_v4 = shapeCast S1x1024 (m ((c : Thread nD τ).loc main_arg1)) shapeCasts_S1024_S1x1024 := rfl

theorem gkv_entry (c : Dev nD) : V m c main_v5 = shapeCast S1x1024 (m ((c : Thread nD τ).loc main_arg4)) shapeCasts_S1024_S1x1024 := rfl

theorem kn_entry (c : Dev nD) : V m c main_v6 = shapeCast S64x1 (m ((c : Thread nD τ).loc main_arg6)) shapeCasts_S64_S64x1 := rfl

theorem qn_entry (c : Dev nD) : V m c main_v3 = shapeCast S1x1024 (shapeCast S1024 (broadcastInDim S16x64 ![0, 1] bcast_S1x64_S16x64_0_1
    (shapeCast S1x64 (m ((c : Thread nD τ).loc main_arg3)) shapeCasts_S64_S1x64)) shapeCasts_S16x64_S1024) shapeCasts_S1024_S1x1024 := rfl

theorem read_wo (c : Dev nD) (t : Fin cfg0.N) (i : Fin 64) (l : Fin 1024) :
    iblk m c 0 t (ix3 0 i l) = m ((c : Thread nD τ).loc main_arg7) (ix3 0 (row64 t i) l) := by
  have hb : (row64 t i).val = 64 * t.val + i.val := rfl
  blk_ext! [iblk, V, idx_all t]

theorem read_win (c : Dev nD) (t : Fin cfg0.N) (i : Fin 64) (l : Fin 4096) :
    iblk m c 1 t (ix3 0 i l) = m ((c : Thread nD τ).loc main_arg8) (ix3 2 (row64 t i) l) := by
  have hb : (row64 t i).val = 64 * t.val + i.val := rfl
  blk_ext! [iblk, V, idx_all t]

theorem read_wout (c : Dev nD) (t : Fin cfg0.N) (i : Fin 256) (l : Fin 1024) :
    iblk m c 2 t (ix3 0 i l) = m ((c : Thread nD τ).loc main_arg9) (ix3 2 (row256 t i) l) := by
  have hb : (row256 t i).val = 256 * t.val + i.val := rfl
  blk_ext! [iblk, V, idx_all t]

theorem read_x (c : Dev nD) (t : Fin cfg0.N) (r d : Fin 1024) :
    iblk m c 3 t (ix3 0 r d) = m ((c : Thread nD τ).loc main_arg0) (ix3 (seq t) (token t r) d) := by
  have hs : (seq t).val = t.val / 2 := rfl
  have hb : (token t r).val = 1024 * (t.val % 2) + r.val := rfl
  blk_ext! [iblk, V, idx_all t]

theorem read_gq (c : Dev nD) (t : Fin cfg0.N) (k : Fin 1024) :
    iblk m c 4 t (ix2 0 k) = m ((c : Thread nD τ).loc main_arg1) (ix1 k) := by
  refine (show iblk m c 4 t (ix2 0 k) = V m c main_v4 (ix2 0 k) from ?_).trans ?_
  · blk_simp [iblk]
    generalize V m c main_v4 = X
    congr 1
    blk_ext [idx_all t]
  · rw [gq_entry]
    pointwise

theorem read_wq (c : Dev nD) (t : Fin cfg0.N) (d l : Fin 1024) :
    iblk m c 5 t (ix3 0 d l) = m ((c : Thread nD τ).loc main_arg2) (ix3 0 d l) := by
  blk_ext! [iblk, V, idx_all t]

theorem read_avg (c : Dev nD) (t : Fin cfg0.N) (k j : Fin 256) : (iblk m c 6 t (ix2 k j) : EReal) = share k j := by
  refine (show iblk m c 6 t (ix2 k j) = V m c main_cst (ix2 k j) from ?_).trans ?_
  · blk_simp [iblk]
    generalize V m c main_cst = X
    congr 1
    blk_ext [idx_all t]
  · rw [avg_entry]
    exact table_share k j

theorem read_qn (c : Dev nD) (t : Fin cfg0.N) (l : Fin 1024) :
    iblk m c 7 t (ix2 0 l) = m ((c : Thread nD τ).loc main_arg3) (ix1 (pos l)) := by
  refine (show iblk m c 7 t (ix2 0 l) = V m c main_v3 (ix2 0 l) from ?_).trans ?_
  · blk_simp [iblk]
    generalize V m c main_v3 = X
    congr 1
    blk_ext [idx_all t]
  · rw [qn_entry]
    pointwise
    rfl

theorem read_gkv (c : Dev nD) (t : Fin cfg0.N) (k : Fin 1024) :
    iblk m c 8 t (ix2 0 k) = m ((c : Thread nD τ).loc main_arg4) (ix1 k) := by
  refine (show iblk m c 8 t (ix2 0 k) = V m c main_v5 (ix2 0 k) from ?_).trans ?_
  · blk_simp [iblk]
    generalize V m c main_v5 = X
    congr 1
    blk_ext [idx_all t]
  · rw [gkv_entry]
    pointwise

theorem read_wkv (c : Dev nD) (t : Fin cfg0.N) (d : Fin 1024) (l : Fin 2048) :
    iblk m c 9 t (ix2 d l) = m ((c : Thread nD τ).loc main_arg5) (ix2 d l) := by
  blk_ext! [iblk, V, idx_all t]

theorem read_kn (c : Dev nD) (t : Fin cfg0.N) (e : Fin 64) :
    iblk m c 10 t (ix2 e 0) = m ((c : Thread nD τ).loc main_arg6) (ix1 e) := by
  refine (show iblk m c 10 t (ix2 e 0) = V m c main_v6 (ix2 e 0) from ?_).trans ?_
  · blk_simp [iblk]
    generalize V m c main_v6 = X
    congr 1
    blk_ext [idx_all t]
  · rw [kn_entry]
    pointwise

end Cert.Qkv

end
-- ==== Proof.Qkv.RefRow.lean ====
/- The reference's results at an element are the formulas of Row.lean. -/
module

public import proofs.«01_k».proof.Proof.Qkv.Row
public import proofs.«01_k».proof.Proof.Gen.Reference3Ideal.Read

@[expose] public section

set_option maxRecDepth 16384

noncomputable section

namespace Cert.Qkv

open Cert.Reference3Ideal Cert.Reference3Ideal.Gen Cert.Reference3Ideal.Read Idealize.ShloMosaic Idealize.ShloMosaic.TcCoe Idealize.SL.Sem
open Cert.Ffn (normed zero_word)
open scoped BigOperators

variable (x0 : (⟨S8x2048x1024, .f32⟩ : BufTy).Contents (Elt Ideal)) (x1 : (⟨S1024, .f32⟩ : BufTy).Contents (Elt Ideal))
  (x2 : (⟨S2x1024x1024, .f32⟩ : BufTy).Contents (Elt Ideal)) (x3 : (⟨S64, .f32⟩ : BufTy).Contents (Elt Ideal))
  (x4 : (⟨S1024, .f32⟩ : BufTy).Contents (Elt Ideal)) (x5 : (⟨S1024x2048, .f32⟩ : BufTy).Contents (Elt Ideal))
  (x6 : (⟨S64, .f32⟩ : BufTy).Contents (Elt Ideal)) (x7 : (⟨S2x1024x1024, .f32⟩ : BufTy).Contents (Elt Ideal))
  (x8 : (⟨S4x1024x4096, .f32⟩ : BufTy).Contents (Elt Ideal)) (x9 : (⟨S4x4096x1024, .f32⟩ : BufTy).Contents (Elt Ideal))

/-- Token `t` of sequence `b`, normed with gain `g`. -/
def tok (g : (⟨S1024, .f32⟩ : BufTy).Contents (Elt Ideal)) (b : Fin 8) (t : Fin 2048) : Fin 1024 → EReal :=
  normed (fun d => x0 (ix3 b t d)) (fun d => g (ix1 d))

/-- The query row. -/
def qRow (b : Fin 8) (t : Fin 2048) : Fin 1024 → EReal :=
  proj (tok x0 x1 b t) (fun d l => x2 (ix3 0 d l))

/-- The row of keys and values. -/
def kvRow (b : Fin 8) (t : Fin 2048) : Fin 2048 → EReal :=
  proj (tok x0 x4 b t) (fun d l => x5 (ix2 d l))

/-- The lanes of the keys. -/
def kLane (l : Fin 1024) : Fin 2048 := ⟨l.val, by omega⟩

/-- The lanes of the values. -/
def vLane (l : Fin 1024) : Fin 2048 := ⟨1024 + l.val, by omega⟩

theorem normed_q (b : Fin 8) (t : Fin 2048) (l : Fin 1024) : val_main_v12 (F := Ideal) x0 x1 (ix3 b t l) = tok x0 x1 b t l := by
  rw [val_main_v12_apply, val_main_v11_apply, val_main_v10_apply, val_main_v9_apply, val_main_v8_apply, val_main_v7_apply, val_main_v6_apply,
    val_main_v5_apply, val_main_cst_1_apply, val_main_v4_apply, val_main_v3_apply, val_main_cst_0_apply, val_main_v2_apply, val_main_v1_apply,
    val_main_cst_apply]
  have eg : idx_main_v10 (idx_main_v11 (ix3 b t l)) = ix1 l := funext fun a => Fin.ext (by match a with | ⟨0, _⟩ => rfl)
  have es : (∑ k : Fin 1024, val_main_v0 (F := Ideal) x0 (idx_main_v1 (idx_main_v2 (idx_main_v8 (ix3 b t l))) k))
      = ∑ k : Fin 1024, x0 (ix3 b t k) * x0 (ix3 b t k) :=
    Finset.sum_congr rfl fun k _ => by
      have ek : idx_main_v1 (idx_main_v2 (idx_main_v8 (ix3 b t l))) k = ix3 b t k :=
        funext fun a => Fin.ext (by match a with | ⟨0, _⟩ => rfl | ⟨1, _⟩ => rfl | ⟨2, _⟩ => rfl)
      rw [val_main_v0_apply, ek]
      rfl
  rw [eg, es]
  have hz : (FloatOps.ofBits .f32 0x00000000#32 : Ideal .f32) = (0 : EReal) := zero_word
  rw [hz, zero_add]
  rfl

/-- The second norm is the first with the other gain. -/
theorem normed_kv (b : Fin 8) (t : Fin 2048) (l : Fin 1024) : val_main_v43 (F := Ideal) x0 x4 (ix3 b t l) = tok x0 x4 b t l :=
  (show val_main_v43 (F := Ideal) x0 x4 = val_main_v12 (F := Ideal) x0 x4 from rfl) ▸ normed_q x0 x4 b t l

theorem q_at (b : Fin 8) (t : Fin 2048) (l : Fin 1024) : val_main_v15 (F := Ideal) x0 x1 x2 (ix3 b t l) = qRow x0 x1 x2 b t l := by
  rw [val_main_v15_apply]
  unfold qRow proj
  refine Finset.sum_congr rfl fun d _ => ?_
  have el : lidx_main_v15 (ix3 b t l) d = ix3 b t d := funext fun a => Fin.ext (by match a with | ⟨0, _⟩ => rfl | ⟨1, _⟩ => rfl | ⟨2, _⟩ => rfl)
  have er : idx_main_v13 (idx_main_v14 (ridx_main_v15 (ix3 b t l) d)) = ix3 0 d l := by
    funext a
    refine Fin.ext ?_
    have hl := l.isLt
    have hd := d.isLt
    match a with
    | ⟨0, _⟩ => rfl
    | ⟨1, _⟩ => show (d.val * 1024 + l.val) / 1024 % 1024 = d.val; omega
    | ⟨2, _⟩ => show (d.val * 1024 + l.val) % 1024 = l.val; omega
  rw [val_main_v14_apply, val_main_v13_apply, er, el, normed_q]

theorem kv_at (b : Fin 8) (t : Fin 2048) (l : Fin 2048) : val_main_v44 (F := Ideal) x0 x4 x5 (ix3 b t l) = kvRow x0 x4 x5 b t l := by
  rw [val_main_v44_apply]
  unfold kvRow proj
  refine Finset.sum_congr rfl fun d _ => ?_
  have el : lidx_main_v44 (ix3 b t l) d = ix3 b t d := funext fun a => Fin.ext (by match a with | ⟨0, _⟩ => rfl | ⟨1, _⟩ => rfl | ⟨2, _⟩ => rfl)
  have er : ridx_main_v44 (ix3 b t l) d = ix2 d l := funext fun a => Fin.ext (by match a with | ⟨0, _⟩ => rfl | ⟨1, _⟩ => rfl)
  rw [er, el, normed_kv]

/-- The lane of head `h`, half `a` and place `e`. -/
def flat (h : Fin 8) (a : Fin 2) (e : Fin 64) : Fin 1024 := ⟨(h.val * 2 + a.val) * 64 + e.val, by omega⟩

/-- The reshape into heads. -/
theorem split_idx (b : Fin 8) (t : Fin 2048) (h : Fin 8) (a : Fin 2) (e : Fin 64) : idx_main_v16 (ix5 b t h a e) = ix3 b t (flat h a e) := by
  funext k
  refine Fin.ext ?_
  match k with
  | ⟨0, _⟩ => show ((((b.val * 2048 + t.val) * 8 + h.val) * 2 + a.val) * 64 + e.val) / 2097152 = b.val; omega
  | ⟨1, _⟩ => show ((((b.val * 2048 + t.val) * 8 + h.val) * 2 + a.val) * 64 + e.val) / 1024 % 2048 = t.val; omega
  | ⟨2, _⟩ => show ((((b.val * 2048 + t.val) * 8 + h.val) * 2 + a.val) * 64 + e.val) % 1024 = (h.val * 2 + a.val) * 64 + e.val; omega

/-- The reshape back from heads. -/
theorem join_idx (b : Fin 8) (t : Fin 2048) (l : Fin 1024) :
    idx_main_v30 (ix3 b t l) = ix5 b t ⟨l.val / 128, by omega⟩ ⟨l.val / 64 % 2, by omega⟩ (pos l) := by
  funext k
  refine Fin.ext ?_
  have hl := l.isLt
  have ht := t.isLt
  match k with
  | ⟨0, _⟩ => show ((b.val * 2048 + t.val) * 1024 + l.val) / 2097152 = b.val; omega
  | ⟨1, _⟩ => show ((b.val * 2048 + t.val) * 1024 + l.val) / 1024 % 2048 = t.val; omega
  | ⟨2, _⟩ => show ((b.val * 2048 + t.val) * 1024 + l.val) / 128 % 8 = l.val / 128; omega
  | ⟨3, _⟩ => show ((b.val * 2048 + t.val) * 1024 + l.val) / 64 % 2 = l.val / 64 % 2; omega
  | ⟨4, _⟩ => show ((b.val * 2048 + t.val) * 1024 + l.val) % 64 = l.val % 64; omega

theorem flat_pos (l : Fin 1024) : flat ⟨l.val / 128, by omega⟩ ⟨l.val / 64 % 2, by omega⟩ (pos l) = l :=
  Fin.ext (by show (l.val / 128 * 2 + l.val / 64 % 2) * 64 + l.val % 64 = l.val; omega)

theorem flat_lane (l : Fin 1024) (e : Fin 64) : flat ⟨l.val / 128, by omega⟩ ⟨l.val / 64 % 2, by omega⟩ e = lane l e :=
  Fin.ext (by show (l.val / 128 * 2 + l.val / 64 % 2) * 64 + e.val = l.val / 64 * 64 + e.val; omega)

/-- The norm of the heads, of the queries. -/
theorem head_q (b : Fin 8) (t : Fin 2048) (l : Fin 1024) :
    val_main_v30 (F := Ideal) x0 x1 x2 x3 (ix3 b t l) = headRow (qRow x0 x1 x2 b t) (fun e => x3 (ix1 e)) l := by
  rw [val_main_v30_apply, join_idx]
  generalize hh : (⟨l.val / 128, by omega⟩ : Fin 8) = h
  generalize ha : (⟨l.val / 64 % 2, by omega⟩ : Fin 2) = a
  rw [val_main_v29_apply, val_main_v28_apply, val_main_v27_apply, val_main_v26_apply, val_main_v25_apply, val_main_v24_apply, val_main_v23_apply,
    val_main_v22_apply, val_main_cst_4_apply, val_main_v21_apply, val_main_v20_apply, val_main_cst_3_apply, val_main_v19_apply, val_main_v18_apply,
    val_main_cst_2_apply, val_main_v16_apply, split_idx, q_at]
  have eg : idx_main_v27 (idx_main_v28 (ix5 b t h a (pos l))) = ix1 (pos l) := funext fun k => Fin.ext (by match k with | ⟨0, _⟩ => rfl)
  have es : (∑ k : Fin 64, val_main_v17 (F := Ideal) x0 x1 x2 (idx_main_v18 (idx_main_v19 (idx_main_v25 (ix5 b t h a (pos l)))) k))
      = squares (qRow x0 x1 x2 b t) l :=
    Finset.sum_congr rfl fun k _ => by
      have ek : idx_main_v18 (idx_main_v19 (idx_main_v25 (ix5 b t h a (pos l)))) k = ix5 b t h a k :=
        funext fun a => Fin.ext (by match a with | ⟨0, _⟩ => rfl | ⟨1, _⟩ => rfl | ⟨2, _⟩ => rfl | ⟨3, _⟩ => rfl | ⟨4, _⟩ => rfl)
      rw [val_main_v17_apply, ek, val_main_v16_apply, split_idx, q_at, ← hh, ← ha, flat_lane]
      rfl
  rw [eg, es, ← hh, ← ha, flat_pos]
  have hz : (FloatOps.ofBits .f32 0x00000000#32 : Ideal .f32) = (0 : EReal) := zero_word
  rw [hz, zero_add]
  rfl

/-- … and of the keys. -/
theorem head_k (b : Fin 8) (t : Fin 2048) (l : Fin 1024) :
    val_main_v60 (F := Ideal) x0 x4 x5 x6 (ix3 b t l) = headRow (fun d => kvRow x0 x4 x5 b t (kLane d)) (fun e => x6 (ix1 e)) l := by
  rw [val_main_v60_apply, show idx_main_v60 (ix3 b t l) = ix5 b t ⟨l.val / 128, by omega⟩ ⟨l.val / 64 % 2, by omega⟩ (pos l) from join_idx b t l]
  generalize hh : (⟨l.val / 128, by omega⟩ : Fin 8) = h
  generalize ha : (⟨l.val / 64 % 2, by omega⟩ : Fin 2) = a
  have ez : ∀ (h : Fin 8) (a : Fin 2) (e : Fin 64), val_main_v46 (F := Ideal) x0 x4 x5 (ix5 b t h a e) = kvRow x0 x4 x5 b t (kLane (flat h a e)) := by
    intro h a e
    have e1 : idx_main_v45 (idx_main_v46 (ix5 b t h a e)) = ix3 b t (kLane (flat h a e)) := by
      rw [show idx_main_v46 (ix5 b t h a e) = ix3 b t (flat h a e) from split_idx b t h a e]
      exact funext fun k => Fin.ext (by match k with | ⟨0, _⟩ => rfl | ⟨1, _⟩ => rfl | ⟨2, _⟩ => rfl)
    rw [val_main_v46_apply, val_main_v45_apply, e1, kv_at]
  rw [val_main_v59_apply, val_main_v58_apply, val_main_v57_apply, val_main_v56_apply, val_main_v55_apply, val_main_v54_apply, val_main_v53_apply,
    val_main_v52_apply, val_main_cst_10_apply, val_main_v51_apply, val_main_v50_apply, val_main_cst_9_apply, val_main_v49_apply, val_main_v48_apply,
    val_main_cst_8_apply, ez]
  have eg : idx_main_v57 (idx_main_v58 (ix5 b t h a (pos l))) = ix1 (pos l) := funext fun k => Fin.ext (by match k with | ⟨0, _⟩ => rfl)
  have es : (∑ k : Fin 64, val_main_v47 (F := Ideal) x0 x4 x5 (idx_main_v48 (idx_main_v49 (idx_main_v55 (ix5 b t h a (pos l)))) k))
      = squares (fun d => kvRow x0 x4 x5 b t (kLane d)) l :=
    Finset.sum_congr rfl fun k _ => by
      have ek : idx_main_v48 (idx_main_v49 (idx_main_v55 (ix5 b t h a (pos l)))) k = ix5 b t h a k :=
        funext fun a => Fin.ext (by match a with | ⟨0, _⟩ => rfl | ⟨1, _⟩ => rfl | ⟨2, _⟩ => rfl | ⟨3, _⟩ => rfl | ⟨4, _⟩ => rfl)
      rw [val_main_v47_apply, ek, ez, ← hh, ← ha, flat_lane]
      rfl
  rw [eg, es, ← hh, ← ha, flat_pos]
  have hz : (FloatOps.ofBits .f32 0x00000000#32 : Ideal .f32) = (0 : EReal) := zero_word
  rw [hz, zero_add]
  rfl

/-- The queries. -/
theorem ref_q (b : Fin 8) (t : Fin 2048) (l : Fin 1024) :
    val_main_v69 (F := Ideal) x0 x1 x2 x3 (ix3 b t l) = headRow (qRow x0 x1 x2 b t) (fun e => x3 (ix1 e)) l :=
  head_q x0 x1 x2 x3 b t l

/-- The keys, transposed. -/
theorem ref_k (b : Fin 8) (l : Fin 1024) (t : Fin 2048) :
    val_main_v70 (F := Ideal) x0 x4 x5 x6 (ix3 b l t) = headRow (fun d => kvRow x0 x4 x5 b t (kLane d)) (fun e => x6 (ix1 e)) l := by
  refine Eq.trans ?_ (head_k x0 x4 x5 x6 b t l)
  refine (val_main_v61_apply (F := Ideal) x0 x4 x5 x6 (ix3 b l t)).trans (congrArg _ ?_)
  exact funext fun k => Fin.ext (by match k with | ⟨0, _⟩ => rfl | ⟨1, _⟩ => rfl | ⟨2, _⟩ => rfl)

/-- The values. -/
theorem ref_v (b : Fin 8) (t : Fin 2048) (l : Fin 1024) : val_main_v71 (F := Ideal) x0 x4 x5 (ix3 b t l) = kvRow x0 x4 x5 b t (vLane l) := by
  refine Eq.trans ?_ (kv_at x0 x4 x5 b t (vLane l))
  refine (val_main_v62_apply (F := Ideal) x0 x4 x5 (ix3 b t l)).trans (congrArg _ ?_)
  exact funext fun k => Fin.ext (by match k with | ⟨0, _⟩ => rfl | ⟨1, _⟩ => rfl | ⟨2, _⟩ => rfl)

/-- The rounded weights. -/
theorem ref_wo (i l : Fin 1024) : val_main_v72 (F := Ideal) x7 (ix2 i l) = x7 (ix3 0 i l) := by
  refine (val_main_v64_apply (F := Ideal) x7 (ix2 i l)).trans ((val_main_v63_apply (F := Ideal) x7 _).trans (congrArg _ (funext fun a => Fin.ext ?_)))
  have hi := i.isLt
  have hl := l.isLt
  match a with
  | ⟨0, _⟩ => rfl
  | ⟨1, _⟩ => show (i.val * 1024 + l.val) / 1024 % 1024 = i.val; omega
  | ⟨2, _⟩ => show (i.val * 1024 + l.val) % 1024 = l.val; omega

theorem ref_win (i : Fin 1024) (l : Fin 4096) : val_main_v73 (F := Ideal) x8 (ix2 i l) = x8 (ix3 2 i l) := by
  refine (val_main_v66_apply (F := Ideal) x8 (ix2 i l)).trans ((val_main_v65_apply (F := Ideal) x8 _).trans (congrArg _ (funext fun a => Fin.ext ?_)))
  have hi := i.isLt
  have hl := l.isLt
  match a with
  | ⟨0, _⟩ => rfl
  | ⟨1, _⟩ => show (i.val * 4096 + l.val) / 4096 % 1024 = i.val; omega
  | ⟨2, _⟩ => show (i.val * 4096 + l.val) % 4096 = l.val; omega

theorem ref_wout (i : Fin 4096) (l : Fin 1024) : val_main_v74 (F := Ideal) x9 (ix2 i l) = x9 (ix3 2 i l) := by
  refine (val_main_v68_apply (F := Ideal) x9 (ix2 i l)).trans ((val_main_v67_apply (F := Ideal) x9 _).trans (congrArg _ (funext fun a => Fin.ext ?_)))
  have hi := i.isLt
  have hl := l.isLt
  match a with
  | ⟨0, _⟩ => rfl
  | ⟨1, _⟩ => show (i.val * 1024 + l.val) / 1024 % 4096 = i.val; omega
  | ⟨2, _⟩ => show (i.val * 1024 + l.val) % 1024 = l.val; omega

end Cert.Qkv

end
-- ==== Proof.Qkv.Value.lean ====
/- The kernel's result arrays are the reference's results. -/
module

public import proofs.«01_k».proof.Proof.Qkv.Reads
public import proofs.«01_k».proof.Proof.Qkv.RefRow

@[expose] public section

set_option maxRecDepth 16384

noncomputable section

namespace Cert.Qkv

open Cert.Kernel3Ideal Cert.Kernel3Ideal.Gen Idealize.ShloMosaic Idealize.ShloMosaic.TcCoe Idealize.SL.Sem
open Cert.Reference3Ideal.Read (val_main_v69 val_main_v70 val_main_v71 val_main_v72 val_main_v73 val_main_v74)
open Cert.Ffn (normed zero_word)
open scoped BigOperators

theorem z2 : (![0, 0] : Fin 2 → ℕ) = fun _ => 0 := by funext a; fin_cases a <;> rfl

theorem z3 : (![0, 0, 0] : Fin 3 → ℕ) = fun _ => 0 := by funext a; fin_cases a <;> rfl

/-- The columns of the keys in the weight. -/
theorem ld_k (X : Vec Ideal S1024x2048 .f32) (d l : Fin 1024) :
    (View.ld X r0_9 (ix2 (n0 := 1024) (n1 := 1024) d l) : EReal) = X (ix2 d (kLane l)) :=
  View.ld_unit_apply_of _ _ _ _ _ _ (by intro b; fin_cases b <;> simp [ix2, kLane])

/-- The columns of the values in the weight. -/
theorem ld_v (X : Vec Ideal S1024x2048 .f32) (d l : Fin 1024) :
    (View.ld X r0_11 (ix2 (n0 := 1024) (n1 := 1024) d l) : EReal) = X (ix2 d (vLane l)) :=
  View.ld_unit_apply_of _ _ _ _ _ _ (by intro b; fin_cases b <;> simp [ix2, vLane])

variable (m : (ℓ : Loc nD τ sig) → Buf (Elt Ideal) ℓ)

/-- The row a grid point norms is the reference's token. -/
theorem tok_q (c : Dev nD) (t : Fin cfg0.N) (r : Fin 1024) :
    normed (fun k => iblk m c 3 t (ix3 0 r k)) (fun k => iblk m c 4 t (ix2 0 k))
      = tok (m ((c : Thread nD τ).loc main_arg0)) (m ((c : Thread nD τ).loc main_arg1)) (seq t) (token t r) := by
  rw [funext fun k => read_x m c t r k, funext fun k => read_gq m c t k]
  rfl

theorem tok_kv (c : Dev nD) (t : Fin cfg0.N) (r : Fin 1024) :
    normed (fun k => iblk m c 3 t (ix3 0 r k)) (fun k => iblk m c 8 t (ix2 0 k))
      = tok (m ((c : Thread nD τ).loc main_arg0)) (m ((c : Thread nD τ).loc main_arg4)) (seq t) (token t r) := by
  rw [funext fun k => read_x m c t r k, funext fun k => read_gkv m c t k]
  rfl

/-- A grid point's query block is the reference's. -/
theorem q_block (c : Dev nD) (t : Fin cfg0.N) (r l : Fin 1024) :
    out0_11 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix3 0 r l)
      = val_main_v69 (F := Ideal) (m ((c : Thread nD τ).loc main_arg0)) (m ((c : Thread nD τ).loc main_arg1)) (m ((c : Thread nD τ).loc main_arg2))
          (m ((c : Thread nD τ).loc main_arg3)) (ix3 (seq t) (token t r) l) := by
  unfold_out out0_11
  rw [View.canon_unit_zero z3, View.ld_unit_zero z3, View.ld_unit_zero z2, View.ld_unit_zero z3, View.ld_unit_zero z2, View.ld_unit_zero z2]
  refine (query_at _ _ _ _ _ (fun k j => read_avg m c t k j) (fun e => m ((c : Thread nD τ).loc main_arg3) (ix1 e)) (fun l => read_qn m c t l) r l).trans ?_
  rw [ref_q, tok_q, funext fun d => funext fun l => read_wq m c t d l]
  rfl

/-- A grid point's key block is the reference's. -/
theorem k_block (c : Dev nD) (t : Fin cfg0.N) (l r : Fin 1024) :
    out0_12 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix3 0 l r)
      = val_main_v70 (F := Ideal) (m ((c : Thread nD τ).loc main_arg0)) (m ((c : Thread nD τ).loc main_arg4)) (m ((c : Thread nD τ).loc main_arg5))
          (m ((c : Thread nD τ).loc main_arg6)) (ix3 (seq t) l (token t r)) := by
  unfold_out out0_12
  rw [View.canon_unit_zero z3, View.ld_unit_zero z3, View.ld_unit_zero z2, View.ld_unit_zero z2]
  refine (key_at _ _ _ _ l r).trans ?_
  rw [ref_k, tok_kv, funext fun e => read_kn m c t e,
    funext fun d => funext fun l => (ld_k (iblk m c 9 t) d l).trans (read_wkv m c t d (kLane l))]
  rfl

/-- A grid point's value block is the reference's. -/
theorem v_block (c : Dev nD) (t : Fin cfg0.N) (r l : Fin 1024) :
    out0_13 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix3 0 r l)
      = val_main_v71 (F := Ideal) (m ((c : Thread nD τ).loc main_arg0)) (m ((c : Thread nD τ).loc main_arg4)) (m ((c : Thread nD τ).loc main_arg5))
          (ix3 (seq t) (token t r) l) := by
  unfold_out out0_13
  rw [View.canon_unit_zero z3, View.ld_unit_zero z3, View.ld_unit_zero z2]
  refine (value_at _ _ _ r l).trans ?_
  rw [ref_v, tok_kv, funext fun d => funext fun l => (ld_v (iblk m c 9 t) d l).trans (read_wkv m c t d (vLane l))]
  rfl

/-- The blocks of rounded weights. -/
theorem wo_block (c : Dev nD) (t : Fin cfg0.N) (i : Fin 64) (l : Fin 1024) :
    out0_14 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i l)
      = val_main_v72 (F := Ideal) (m ((c : Thread nD τ).loc main_arg7)) (ix2 (row64 t i) l) := by
  unfold_out out0_14
  rw [View.canon_unit_zero z2, View.ld_unit_zero z3, ref_wo]
  exact (cast_o_at _ i l).trans (read_wo m c t i l)

theorem win_block (c : Dev nD) (t : Fin cfg0.N) (i : Fin 64) (l : Fin 4096) :
    out0_15 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i l)
      = val_main_v73 (F := Ideal) (m ((c : Thread nD τ).loc main_arg8)) (ix2 (row64 t i) l) := by
  unfold_out out0_15
  rw [View.canon_unit_zero z2, View.ld_unit_zero z3, ref_win]
  exact (cast_in_at _ i l).trans (read_win m c t i l)

theorem wout_block (c : Dev nD) (t : Fin cfg0.N) (i : Fin 256) (l : Fin 1024) :
    out0_16 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix2 i l)
      = val_main_v74 (F := Ideal) (m ((c : Thread nD τ).loc main_arg9)) (ix2 (row256 t i) l) := by
  unfold_out out0_16
  rw [View.canon_unit_zero z2, View.ld_unit_zero z3, ref_wout]
  exact (cast_out_at _ i l).trans (read_wout m c t i l)

/-- An index of a block of one sequence. -/
theorem ix_three (y : S1x1024x1024.Idx) : y = ix3 (n0 := 1) (n1 := 1024) (n2 := 1024) 0 ⟨(y 1).val, (y 1).isLt⟩ ⟨(y 2).val, (y 2).isLt⟩ := by
  funext a
  match a with
  | ⟨0, _⟩ => exact Fin.ext (by have h : (y 0).val < 1 := (y 0).isLt; show (y 0).val = 0; omega)
  | ⟨1, _⟩ => rfl
  | ⟨2, _⟩ => rfl

/-- The kernel's queries are the reference's. -/
theorem q_array (c : Dev nD) : (dats m 0 c).arrAt 11 cfg0.N
    = val_main_v69 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  blk_simp
  rw [after0_11, ix_three y]
  refine (q_block m c t _ _).trans (congrArg _ ?_)
  blk_ext [idx_all t, seq, token]

/-- The kernel's transposed keys are the reference's. -/
theorem k_array (c : Dev nD) : (dats m 0 c).arrAt 12 cfg0.N
    = val_main_v70 (F := Ideal) (m ((c : Thread nD τ).loc main_arg0)) (m ((c : Thread nD τ).loc main_arg4)) (m ((c : Thread nD τ).loc main_arg5)) (m ((c : Thread nD τ).loc main_arg6)) := by
  refine (dats m 0 c).arrAt_eq_of_covers 12 _ (by decide +kernel) fun t hf y => ?_
  blk_simp
  rw [after0_12, ix_three y]
  refine (k_block m c t _ _).trans (congrArg _ ?_)
  blk_ext [idx_all t, seq, token]

/-- The kernel's values are the reference's. -/
theorem v_array (c : Dev nD) : (dats m 0 c).arrAt 13 cfg0.N
    = val_main_v71 (F := Ideal) (m ((c : Thread nD τ).loc main_arg0)) (m ((c : Thread nD τ).loc main_arg4)) (m ((c : Thread nD τ).loc main_arg5)) := by
  refine (dats m 0 c).arrAt_eq_of_covers 13 _ (by decide +kernel) fun t hf y => ?_
  blk_simp
  rw [after0_13, ix_three y]
  refine (v_block m c t _ _).trans (congrArg _ ?_)
  blk_ext [idx_all t, seq, token]

/-- The kernel rounds the weights as the reference does. -/
theorem wo_array (c : Dev nD) : (dats m 0 c).arrAt 14 cfg0.N
    = val_main_v72 (F := Ideal) (m ((c : Thread nD τ).loc main_arg7)) := by
  refine (dats m 0 c).arrAt_eq_of_covers 14 _ (by decide +kernel) fun t hf y => ?_
  blk_simp
  rw [after0_14]
  have hy : y = ix2 (n0 := 64) (n1 := 1024) ⟨(y 0).val, (y 0).isLt⟩ ⟨(y 1).val, (y 1).isLt⟩ := by
    funext a; match a with | ⟨0, _⟩ => rfl | ⟨1, _⟩ => rfl
  rw [hy]
  refine (wo_block m c t _ _).trans (congrArg _ ?_)
  blk_ext [idx_all t, row64]

theorem win_array (c : Dev nD) : (dats m 0 c).arrAt 15 cfg0.N
    = val_main_v73 (F := Ideal) (m ((c : Thread nD τ).loc main_arg8)) := by
  refine (dats m 0 c).arrAt_eq_of_covers 15 _ (by decide +kernel) fun t hf y => ?_
  blk_simp
  rw [after0_15]
  have hy : y = ix2 (n0 := 64) (n1 := 4096) ⟨(y 0).val, (y 0).isLt⟩ ⟨(y 1).val, (y 1).isLt⟩ := by
    funext a; match a with | ⟨0, _⟩ => rfl | ⟨1, _⟩ => rfl
  rw [hy]
  refine (win_block m c t _ _).trans (congrArg _ ?_)
  blk_ext [idx_all t, row64]

theorem wout_array (c : Dev nD) : (dats m 0 c).arrAt 16 cfg0.N
    = val_main_v74 (F := Ideal) (m ((c : Thread nD τ).loc main_arg9)) := by
  refine (dats m 0 c).arrAt_eq_of_covers 16 _ (by decide +kernel) fun t hf y => ?_
  blk_simp
  rw [after0_16]
  have hy : y = ix2 (n0 := 256) (n1 := 1024) ⟨(y 0).val, (y 0).isLt⟩ ⟨(y 1).val, (y 1).isLt⟩ := by
    funext a; match a with | ⟨0, _⟩ => rfl | ⟨1, _⟩ => rfl
  rw [hy]
  refine (wout_block m c t _ _).trans (congrArg _ ?_)
  blk_ext [idx_all t, row256]

end Cert.Qkv

end
-- ==== Proof.lean ====
/- The certificate: the three frames, the named constants, and the equality of the kernel's result with the reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Attn.KernelValue
public import proofs.«01_k».proof.Proof.Attn.Finite
public import proofs.«01_k».proof.Proof.Ffn.Value
public import proofs.«01_k».proof.Proof.Qkv.Value
public import Idealize.ShloMosaic.Adequacy
public import Idealize.ShloMosaic.Init

@[expose] public section

set_option maxRecDepth 16384

noncomputable section

namespace Cert.Proof

open Idealize.ShloMosaic Idealize.SL.Sem

/-- The kernel runs to the end and leaves its arguments as they were. -/
theorem frame_p : Cert.quiescent_Kernel := fun m ρ _ => Cert.Kernel.Gen.frame m ρ

/-- So does the kernel over the extended reals. -/
theorem frame_pi : Cert.quiescent_KernelIdeal := fun m ρ _ => Cert.KernelIdeal.Gen.frame m ρ

/-- … and where the precondition holds. -/
theorem frame_pi_finite : Cert.quiescent_KernelIdeal_pre_finite := fun m ρ _ => Cert.KernelIdeal.Gen.frame m ρ

/-- The reference runs to the end and leaves its arguments as they were. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- … and where the precondition holds. -/
theorem frame_ri_finite : Cert.quiescent_ReferenceIdeal_pre_finite := fun m ρ _ => frame_ri m ρ trivial

/-- The three named constants stand for the words that the kernel holds. -/
theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "mask" .f32 0xF149F2CA#32 ⊥ rfl,
    IdealRules.named_const.statement Cert.KernelIdeal.κ "scale_log2e" .f32 0x3E38AA3B#32 (((1 / 8) * (Real.log 2)⁻¹ : ℝ) : EReal) rfl⟩

/-- On finite inputs the kernel's result array is the reference's term of the same arguments. -/
theorem result_eq (m : (ℓ : Loc Cert.KernelIdeal.nD Cert.KernelIdeal.τ Cert.KernelIdeal.sig) → Buf (Elt Ideal) ℓ) (h : Cert.Pre_KernelIdeal_finite m)
    (c : Dev Cert.KernelIdeal.nD) :
    (Cert.KernelIdeal.Gen.dats m 0 c).arrAt 6 Cert.KernelIdeal.cfg0.N
      = Cert.ReferenceIdeal.Read.val_main_v95 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) := by
  obtain ⟨⟨r0, h0⟩, ⟨r1, h1⟩, ⟨r2, h2⟩, ⟨r3, h3⟩, ⟨r4, h4⟩, ⟨r5, h5⟩, ⟨r6, h6⟩, ⟨r7, h7⟩⟩ := Cert.Attn.pre_real m h c
  obtain ⟨lam, hlam⟩ := Cert.Attn.lam_real (fun d => r4 (ix1 d)) (fun d => r5 (ix1 d)) (fun d => r6 (ix1 d)) (fun d => r7 (ix1 d))
  refine Cert.Attn.array_eq m c r0 r1 r2 r3 lam h0 h1 h2 h3 ?_
  rw [h4, h5, h6, h7]
  exact hlam

/-- On finite inputs kernel and reference end with equal results. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v95_eq (StableHlo.launchContents m' c)).trans ?_
  refine Eq.trans ?_ (result_eq m hpre c).symm
  obtain ⟨a0, a1, a2, a3, a4, a5, a6, a7, a8⟩ := hagree c
  rw [← a0, ← a1, ← a2, ← a3, ← a4, ← a5, ← a6, ← a7, ← a8]

/-- The output projection and feed-forward kernel runs to the end and leaves its arguments as they were. -/
theorem frame_p2 : Cert.quiescent_Kernel2 := fun m ρ _ => Cert.Kernel2.Gen.frame m ρ

/-- So does that kernel over the extended reals. -/
theorem frame_pi2 : Cert.quiescent_Kernel2Ideal := fun m ρ _ => Cert.Kernel2Ideal.Gen.frame m ρ

/-- So does its reference. -/
theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The output projection and feed-forward kernel and its reference end with equal results. -/
theorem algebraic2 : Cert.algebraic_Kernel2Ideal_Reference2Ideal := by
  intro m ρ m' ρ' hpre hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  refine (Cert.Reference2Ideal.Read.val_main_v23_eq _ _ _ _ _ _).trans ?_
  refine Eq.trans ?_ (Cert.Ffn.array_eq m c).symm
  obtain ⟨a0, a1, a2, a3, a4, a5⟩ := hagree c
  rw [← a0, ← a1, ← a2, ← a3, ← a4, ← a5]

/-- The projections' kernel runs to the end and leaves its arguments as they were. -/
theorem frame_p3 : Cert.quiescent_Kernel3 := fun m ρ _ => Cert.Kernel3.Gen.frame m ρ

/-- So does that kernel over the extended reals. -/
theorem frame_pi3 : Cert.quiescent_Kernel3Ideal := fun m ρ _ => Cert.Kernel3Ideal.Gen.frame m ρ

/-- So does its reference. -/
theorem frame_ri3 : Cert.quiescent_Reference3Ideal := fun m ρ _ =>
  (θ_run Cert.Reference3Ideal.defs _ _).mono (fun r h => ⟨fun c => (h c).2.2.2.2.2.2, sem_eq_zero_of_no_sems (by decide) r.2⟩)
    (Cert.Reference3Ideal.Value.run (F := Ideal) m ρ)

/-- The projections' kernel and its reference end with equal results. -/
theorem algebraic3 : Cert.algebraic_Kernel3Ideal_Reference3Ideal := by
  intro m ρ m' ρ' hpre hagree
  refine ⟨_, _, _, _, _, _, Cert.Kernel3Ideal.Value.run_blocks (F := Ideal) m ρ, ?_⟩
  refine (θ_run Cert.Reference3Ideal.defs _ _).mono (fun _ h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference3Ideal.Value.run (F := Ideal) m' ρ')
  all_goals obtain ⟨a0, a1, a2, a3, a4, a5, a6, a7, a8, a9⟩ := hagree c
  · refine (Cert.Reference3Ideal.Read.val_main_v69_eq _ _ _ _).trans (Eq.trans ?_ (Cert.Qkv.q_array m c).symm)
    rw [← a0, ← a1, ← a2, ← a3]
  · refine (Cert.Reference3Ideal.Read.val_main_v70_eq _ _ _ _).trans (Eq.trans ?_ (Cert.Qkv.k_array m c).symm)
    rw [← a0, ← a4, ← a5, ← a6]
  · refine (Cert.Reference3Ideal.Read.val_main_v71_eq _ _ _).trans (Eq.trans ?_ (Cert.Qkv.v_array m c).symm)
    rw [← a0, ← a4, ← a5]
  · refine (Cert.Reference3Ideal.Read.val_main_v72_eq _).trans (Eq.trans ?_ (Cert.Qkv.wo_array m c).symm)
    rw [← a7]
  · refine (Cert.Reference3Ideal.Read.val_main_v73_eq _).trans (Eq.trans ?_ (Cert.Qkv.win_array m c).symm)
    rw [← a8]
  · refine (Cert.Reference3Ideal.Read.val_main_v74_eq _).trans (Eq.trans ?_ (Cert.Qkv.wout_array m c).symm)
    rw [← a9]

/-- Everything that is claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Attn.preFacts,
    frame_p, frame_pi, frame_pi_finite, frame_ri, frame_ri_finite, frame_p2, frame_pi2, frame_ri2, frame_p3, frame_pi3, frame_ri3,
    preserves, algebraic, trivial, algebraic2, trivial, algebraic3⟩

end Cert.Proof

end
